-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S4x512 Cert.KernelIdeal.S2x512
  ∧ IdealRules.named_const.Statement Cert.KernelIdeal.κ "minus_inf" .f32 0xFF61B1E6#32 ⊥
  ∧ IdealRules.bf16_pair.Statement Cert.KernelIdeal.S128x128 Cert.KernelIdeal.S64x128
  ∧ IdealRules.bf16_pair.Statement Cert.KernelIdeal.S256x1 Cert.KernelIdeal.S128x1
  ∧ IdealRules.bf16_pair.Statement Cert.KernelIdeal.S16x512 Cert.KernelIdeal.S8x512
  ∧ IdealRules.named_const.Statement Cert.KernelIdeal.κ "exp2_scale" .f32 0x3DD53B95#32 (((Real.sqrt 192)⁻¹ * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S64x4x128x512 : Shape := ⟨4, ![64, 4, 128, 512]⟩
abbrev S64x4x128x64 : Shape := ⟨4, ![64, 4, 128, 64]⟩
abbrev S64x4x512 : Shape := ⟨3, ![64, 4, 512]⟩
abbrev S64x4x64 : Shape := ⟨3, ![64, 4, 64]⟩
abbrev S64x2048x512 : Shape := ⟨3, ![64, 2048, 512]⟩
abbrev S64x2048x4 : Shape := ⟨3, ![64, 2048, 4]⟩
abbrev S64x2048x64 : Shape := ⟨3, ![64, 2048, 64]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x4x128x512 .bf16) (main_arg1 : FVec F S64x4x128x64 .bf16) (main_arg2 : FVec F S64x4x512 .bf16) (main_arg3 : FVec F S64x4x64 .bf16) (main_arg4 : FVec F S64x2048x512 .fp8e4m3) (main_arg5 : FVec F S64x2048x4 .f32) (main_arg6 : FVec F S64x2048x64 .bf16) (main_arg7 : IVec S64 32) : IVec S64 1 :=
  let main_c : IVec S_ 32 := constantI S_ 32 0#32
  let main_v0 : IVec S64 32 := broadcastInDim S64 ![] bcast_S_S64 main_c
  let main_v1 : IVec S64 1 := cmpi .sge main_arg7 main_v0
  let main_c_0 : IVec S_ 32 := constantI S_ 32 2048#32
  let main_v2 : IVec S64 32 := broadcastInDim S64 ![] bcast_S_S64 main_c_0
  let main_v3 : IVec S64 1 := cmpi .sle main_arg7 main_v2
  let main_v4 : IVec S64 1 := andi main_v1 main_v3
  main_v4
-- ==== Kernel.lean ====
abbrev S64x4x128x512 : Shape := ⟨4, ![64, 4, 128, 512]⟩
abbrev S64x4x128x64 : Shape := ⟨4, ![64, 4, 128, 64]⟩
abbrev S64x4x512 : Shape := ⟨3, ![64, 4, 512]⟩
abbrev S64x4x64 : Shape := ⟨3, ![64, 4, 64]⟩
abbrev S64x2048x512 : Shape := ⟨3, ![64, 2048, 512]⟩
abbrev S64x2048x4 : Shape := ⟨3, ![64, 2048, 4]⟩
abbrev S64x2048x64 : Shape := ⟨3, ![64, 2048, 64]⟩
abbrev S64 : Shape := ⟨1, ![64]⟩
abbrev S64x512x512 : Shape := ⟨3, ![64, 512, 512]⟩
abbrev S64x4x64x128 : Shape := ⟨4, ![64, 4, 64, 128]⟩
abbrev S64x4x2048 : Shape := ⟨3, ![64, 4, 2048]⟩
abbrev S64x64x2048 : Shape := ⟨3, ![64, 64, 2048]⟩
abbrev S1x512x512 : Shape := ⟨3, ![1, 512, 512]⟩
abbrev S1x4x64x128 : Shape := ⟨4, ![1, 4, 64, 128]⟩
abbrev S1x4x512 : Shape := ⟨3, ![1, 4, 512]⟩
abbrev S1x4x64 : Shape := ⟨3, ![1, 4, 64]⟩
abbrev S1x2048x512 : Shape := ⟨3, ![1, 2048, 512]⟩
abbrev S1x4x2048 : Shape := ⟨3, ![1, 4, 2048]⟩
abbrev S1x64x2048 : Shape := ⟨3, ![1, 64, 2048]⟩
abbrev S512x128 : Shape := ⟨2, ![512, 128]⟩
abbrev S256x512 : Shape := ⟨2, ![256, 512]⟩
abbrev S128x256 : Shape := ⟨2, ![128, 256]⟩
abbrev S512x512 : Shape := ⟨2, ![512, 512]⟩
abbrev S1 : Shape := ⟨1, ![1]⟩
abbrev S128x128 : Shape := ⟨2, ![128, 128]⟩
abbrev S1x1x64x128 : Shape := ⟨4, ![1, 1, 64, 128]⟩
abbrev S64x128 : Shape := ⟨2, ![64, 128]⟩
abbrev S4x64 : Shape := ⟨2, ![4, 64]⟩
abbrev S4x128 : Shape := ⟨2, ![4, 128]⟩
abbrev S124x128 : Shape := ⟨2, ![124, 128]⟩
abbrev S4x512 : Shape := ⟨2, ![4, 512]⟩
abbrev S2x512 : Shape := ⟨2, ![2, 512]⟩
abbrev S1x4x256 : Shape := ⟨3, ![1, 4, 256]⟩
abbrev S4x256 : Shape := ⟨2, ![4, 256]⟩
abbrev S8x256 : Shape := ⟨2, ![8, 256]⟩
abbrev S8x128 : Shape := ⟨2, ![8, 128]⟩
abbrev S1x256x512 : Shape := ⟨3, ![1, 256, 512]⟩
abbrev S128x1 : Shape := ⟨2, ![128, 1]⟩
abbrev S256x1 : Shape := ⟨2, ![256, 1]⟩
abbrev S256x128 : Shape := ⟨2, ![256, 128]⟩
abbrev S16x512 : Shape := ⟨2, ![16, 512]⟩
abbrev S8x512 : Shape := ⟨2, ![8, 512]⟩
abbrev S1x512 : Shape := ⟨2, ![1, 512]⟩
abbrev S1x64x256 : Shape := ⟨3, ![1, 64, 256]⟩
abbrev S64x256 : Shape := ⟨2, ![64, 256]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 22
  | .smem => 1
  | _ => 0

abbrev bufTy : (tb : Table) → Fin (tcTables nBuf tb) → BufTy
  | .hbm, ⟨0, _⟩ => ⟨S64x4x128x512, .bf16⟩
  | .hbm, ⟨1, _⟩ => ⟨S64x4x128x64, .bf16⟩
  | .hbm, ⟨2, _⟩ => ⟨S64x4x512, .bf16⟩
  | .hbm, ⟨3, _⟩ => ⟨S64x4x64, .bf16⟩
  | .hbm, ⟨4, _⟩ => ⟨S64x2048x512, .fp8e4m3⟩
  | .hbm, ⟨5, _⟩ => ⟨S64x2048x4, .f32⟩
  | .hbm, ⟨6, _⟩ => ⟨S64x2048x64, .bf16⟩
  | .hbm, ⟨7, _⟩ => ⟨S64x512x512, .bf16⟩
  | .hbm, ⟨8, _⟩ => ⟨S64x4x64x128, .bf16⟩
  | .hbm, ⟨9, _⟩ => ⟨S64x4x2048, .f32⟩
  | .hbm, ⟨10, _⟩ => ⟨S64x64x2048, .bf16⟩
  | .hbm, ⟨11, _⟩ => ⟨S64x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4x64x128, .bf16⟩
  | .local _ .vmem, ⟨3, _⟩ => ⟨S1x4x64x128, .bf16⟩
  | .local _ .vmem, ⟨4, _⟩ => ⟨S1x4x512, .bf16⟩
  | .local _ .vmem, ⟨5, _⟩ => ⟨S1x4x512, .bf16⟩
  | .local _ .vmem, ⟨6, _⟩ => ⟨S1x4x64, .bf16⟩
  | .local _ .vmem, ⟨7, _⟩ => ⟨S1x4x64, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x4x2048, .f32⟩
  | .local _ .vmem, ⟨11, _⟩ => ⟨S1x4x2048, .f32⟩
  | .local _ .vmem, ⟨12, _⟩ => ⟨S1x64x2048, .bf16⟩
  | .local _ .vmem, ⟨13, _⟩ => ⟨S1x64x2048, .bf16⟩
  | .local _ .vmem, ⟨14, _⟩ => ⟨S1x512x512, .bf16⟩
  | .local _ .vmem, ⟨15, _⟩ => ⟨S1x512x512, .bf16⟩
  | .local _ .vmem, ⟨16, _⟩ => ⟨S512x128, .bf16⟩
  | .local _ .vmem, ⟨17, _⟩ => ⟨S256x512, .bf16⟩
  | .local _ .vmem, ⟨18, _⟩ => ⟨S128x256, .bf16⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .smem, ⟨0, _⟩ => ⟨S64, .i32⟩
  | _, _ => ⟨S64x4x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![64], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32 : BitVec 32 := 0#32
  let c4_i32 : BitVec 32 := 4#32
  let v2 : BitVec 32 := Scalar.addi v1 c4_i32
  let c256_i32 : BitVec 32 := 256#32
  let v3 : BitVec 32 := Scalar.addi v2 c256_i32
  let c1_i32 : BitVec 32 := 1#32
  let v4 : BitVec 32 := Scalar.subi v3 c1_i32
  let c256_i32_0 : BitVec 32 := 256#32
  let v5 : BitVec 32 := Scalar.divsi v4 c256_i32_0
  let v87 : BitVec 32 := Scalar.subi v5 c0_i32
  let c1_i32_43 : BitVec 32 := 1#32
  let v89 : BitVec 32 := Scalar.divsi v87 c1_i32_43
  let v90 : BitVec 32 := Scalar.muli v89 c1_i32_43
  let v91 : BitVec 32 := Scalar.addi c0_i32 v90
  let c1_i32_44 : BitVec 32 := 1#32
  ⟨c0_i32, v91, c1_i32_44⟩

def k0_mult1 (v1 : BitVec 32) (k0_t1 : Fin (k0_t1_loop v1).trips) : BitVec 32 :=
  let c0_i32 : BitVec 32 := 0#32
  let c1_i32_44 : BitVec 32 := 1#32
  let arg16 : BitVec 32 := Scf.iv c0_i32 c1_i32_44 k0_t1
  let c7_i32 : BitVec 32 := 7#32
  let v102 : BitVec 32 := Scalar.minsi arg16 c7_i32
  let c256_i32_53 : BitVec 32 := 256#32
  let v103 : BitVec 32 := Scalar.muli v102 c256_i32_53
  v103
def k0_off2 (v1 : BitVec 32) (k0_t1 : Fin (k0_t1_loop v1).trips) : Fin 3 → Nat :=
  let c0_55 : Index := 0#32
  let c0_56 : Index := 0#32
  let c0_i32 : BitVec 32 := 0#32
  let c1_i32_44 : BitVec 32 := 1#32
  let arg16 : BitVec 32 := Scf.iv c0_i32 c1_i32_44 k0_t1
  let c7_i32 : BitVec 32 := 7#32
  let v102 : BitVec 32 := Scalar.minsi arg16 c7_i32
  let c256_i32_53 : BitVec 32 := 256#32
  let v103 : BitVec 32 := Scalar.muli v102 c256_i32_53
  let v104 : BitVec 32 := v103
  let v107 : Index := Scalar.indexCast v104
  ![0, 0, v107.toNat]
def k0_off3 (v1 : BitVec 32) (k0_t1 : Fin (k0_t1_loop v1).trips) : Fin 3 → Nat :=
  let c0_57 : Index := 0#32
  let c0_i32 : BitVec 32 := 0#32
  let c1_i32_44 : BitVec 32 := 1#32
  let arg16 : BitVec 32 := Scf.iv c0_i32 c1_i32_44 k0_t1
  let c7_i32 : BitVec 32 := 7#32
  let v102 : BitVec 32 := Scalar.minsi arg16 c7_i32
  let c256_i32_53 : BitVec 32 := 256#32
  let v103 : BitVec 32 := Scalar.muli v102 c256_i32_53
  let v104 : BitVec 32 := v103
  let v122 : Index := Scalar.indexCast v104
  let c0_58 : Index := 0#32
  ![0, v122.toNat, 0]
def k0_off4 (v1 : BitVec 32) (k0_t1 : Fin (k0_t1_loop v1).trips) : Fin 3 → Nat :=
  let c0_71 : Index := 0#32
  let c0_72 : Index := 0#32
  let c0_i32 : BitVec 32 := 0#32
  let c1_i32_44 : BitVec 32 := 1#32
  let arg16 : BitVec 32 := Scf.iv c0_i32 c1_i32_44 k0_t1
  let c7_i32 : BitVec 32 := 7#32
  let v102 : BitVec 32 := Scalar.minsi arg16 c7_i32
  let c256_i32_53 : BitVec 32 := 256#32
  let v103 : BitVec 32 := Scalar.muli v102 c256_i32_53
  let v104 : BitVec 32 := v103
  let v186 : Index := Scalar.indexCast v104
  ![0, 0, v186.toNat]
@[reducible] def k0_t2_loop (v1 : BitVec 32) : Scf.Loop 32 :=
  let c0_i32 : BitVec 32 := 0#32
  let c4_i32 : BitVec 32 := 4#32
  let v2 : BitVec 32 := Scalar.addi v1 c4_i32
  let c256_i32 : BitVec 32 := 256#32
  let v3 : BitVec 32 := Scalar.addi v2 c256_i32
  let c1_i32 : BitVec 32 := 1#32
  let v4 : BitVec 32 := Scalar.subi v3 c1_i32
  let c256_i32_0 : BitVec 32 := 256#32
  let v5 : BitVec 32 := Scalar.divsi v4 c256_i32_0
  let v87 : BitVec 32 := Scalar.subi v5 c0_i32
  let c1_i32_43 : BitVec 32 := 1#32
  let v89 : BitVec 32 := Scalar.divsi v87 c1_i32_43
  let v90 : BitVec 32 := Scalar.muli v89 c1_i32_43
  let v91 : BitVec 32 := Scalar.addi c0_i32 v90
  let v88 : BitVec 32 := Scalar.addi c0_i32 v87
  let c1_i32_45 : BitVec 32 := 1#32
  ⟨v91, v88, c1_i32_45⟩
def k0_mult2 (v1 : BitVec 32) (k0_t2 : Fin (k0_t2_loop v1).trips) : BitVec 32 :=
  let c0_i32 : BitVec 32 := 0#32
  let c4_i32 : BitVec 32 := 4#32
  let v2 : BitVec 32 := Scalar.addi v1 c4_i32
  let c256_i32 : BitVec 32 := 256#32
  let v3 : BitVec 32 := Scalar.addi v2 c256_i32
  let c1_i32 : BitVec 32 := 1#32
  let v4 : BitVec 32 := Scalar.subi v3 c1_i32
  let c256_i32_0 : BitVec 32 := 256#32
  let v5 : BitVec 32 := Scalar.divsi v4 c256_i32_0
  let v87 : BitVec 32 := Scalar.subi v5 c0_i32
  let c1_i32_43 : BitVec 32 := 1#32
  let v89 : BitVec 32 := Scalar.divsi v87 c1_i32_43
  let v90 : BitVec 32 := Scalar.muli v89 c1_i32_43
  let v91 : BitVec 32 := Scalar.addi c0_i32 v90
  let c1_i32_45 : BitVec 32 := 1#32
  let arg16 : BitVec 32 := Scf.iv v91 c1_i32_45 k0_t2
  let c7_i32 : BitVec 32 := 7#32
  let v102 : BitVec 32 := Scalar.minsi arg16 c7_i32
  let c256_i32_53 : BitVec 32 := 256#32
  let v103 : BitVec 32 := Scalar.muli v102 c256_i32_53
  v103
def k0_off5 (v1 : BitVec 32) (k0_t2 : Fin (k0_t2_loop v1).trips) : Fin 3 → Nat :=
  let c0_55 : Index := 0#32
  let c0_56 : Index := 0#32
  let c0_i32 : BitVec 32 := 0#32
  let c4_i32 : BitVec 32 := 4#32
  let v2 : BitVec 32 := Scalar.addi v1 c4_i32
  let c256_i32 : BitVec 32 := 256#32
  let v3 : BitVec 32 := Scalar.addi v2 c256_i32
  let c1_i32 : BitVec 32 := 1#32
  let v4 : BitVec 32 := Scalar.subi v3 c1_i32
  let c256_i32_0 : BitVec 32 := 256#32
  let v5 : BitVec 32 := Scalar.divsi v4 c256_i32_0
  let v87 : BitVec 32 := Scalar.subi v5 c0_i32
  let c1_i32_43 : BitVec 32 := 1#32
  let v89 : BitVec 32 := Scalar.divsi v87 c1_i32_43
  let v90 : BitVec 32 := Scalar.muli v89 c1_i32_43
  let v91 : BitVec 32 := Scalar.addi c0_i32 v90
  let c1_i32_45 : BitVec 32 := 1#32
  let arg16 : BitVec 32 := Scf.iv v91 c1_i32_45 k0_t2
  let c7_i32 : BitVec 32 := 7#32
  let v102 : BitVec 32 := Scalar.minsi arg16 c7_i32
  let c256_i32_53 : BitVec 32 := 256#32
  let v103 : BitVec 32 := Scalar.muli v102 c256_i32_53
  let v104 : BitVec 32 := v103
  let v107 : Index := Scalar.indexCast v104
  ![0, 0, v107.toNat]
def k0_off6 (v1 : BitVec 32) (k0_t2 : Fin (k0_t2_loop v1).trips) : Fin 3 → Nat :=
  let c0_57 : Index := 0#32
  let c0_i32 : BitVec 32 := 0#32
  let c4_i32 : BitVec 32 := 4#32
  let v2 : BitVec 32 := Scalar.addi v1 c4_i32
  let c256_i32 : BitVec 32 := 256#32
  let v3 : BitVec 32 := Scalar.addi v2 c256_i32
  let c1_i32 : BitVec 32 := 1#32
  let v4 : BitVec 32 := Scalar.subi v3 c1_i32
  let c256_i32_0 : BitVec 32 := 256#32
  let v5 : BitVec 32 := Scalar.divsi v4 c256_i32_0
  let v87 : BitVec 32 := Scalar.subi v5 c0_i32
  let c1_i32_43 : BitVec 32 := 1#32
  let v89 : BitVec 32 := Scalar.divsi v87 c1_i32_43
  let v90 : BitVec 32 := Scalar.muli v89 c1_i32_43
  let v91 : BitVec 32 := Scalar.addi c0_i32 v90
  let c1_i32_45 : BitVec 32 := 1#32
  let arg16 : BitVec 32 := Scf.iv v91 c1_i32_45 k0_t2
  let c7_i32 : BitVec 32 := 7#32
  let v102 : BitVec 32 := Scalar.minsi arg16 c7_i32
  let c256_i32_53 : BitVec 32 := 256#32
  let v103 : BitVec 32 := Scalar.muli v102 c256_i32_53
  let v104 : BitVec 32 := v103
  let v122 : Index := Scalar.indexCast v104
  let c0_58 : Index := 0#32
  ![0, v122.toNat, 0]
def k0_off7 (v1 : BitVec 32) (k0_t2 : Fin (k0_t2_loop v1).trips) : Fin 3 → Nat :=
  let c0_71 : Index := 0#32
  let c0_72 : Index := 0#32
  let c0_i32 : BitVec 32 := 0#32
  let c4_i32 : BitVec 32 := 4#32
  let v2 : BitVec 32 := Scalar.addi v1 c4_i32
  let c256_i32 : BitVec 32 := 256#32
  let v3 : BitVec 32 := Scalar.addi v2 c256_i32
  let c1_i32 : BitVec 32 := 1#32
  let v4 : BitVec 32 := Scalar.subi v3 c1_i32
  let c256_i32_0 : BitVec 32 := 256#32
  let v5 : BitVec 32 := Scalar.divsi v4 c256_i32_0
  let v87 : BitVec 32 := Scalar.subi v5 c0_i32
  let c1_i32_43 : BitVec 32 := 1#32
  let v89 : BitVec 32 := Scalar.divsi v87 c1_i32_43
  let v90 : BitVec 32 := Scalar.muli v89 c1_i32_43
  let v91 : BitVec 32 := Scalar.addi c0_i32 v90
  let c1_i32_45 : BitVec 32 := 1#32
  let arg16 : BitVec 32 := Scf.iv v91 c1_i32_45 k0_t2
  let c7_i32 : BitVec 32 := 7#32
  let v102 : BitVec 32 := Scalar.minsi arg16 c7_i32
  let c256_i32_53 : BitVec 32 := 256#32
  let v103 : BitVec 32 := Scalar.muli v102 c256_i32_53
  let v104 : BitVec 32 := v103
  let v186 : Index := Scalar.indexCast v104
  ![0, 0, v186.toNat]

def k0_chk1 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S1x4x256.size a ≤ S1x4x2048.size a) ∧
  (∀ k0_t1 : Fin (k0_t1_loop v1).trips, ∀ a, (k0_off3 v1 k0_t1) a + S1x256x512.size a ≤ S1x2048x512.size a) ∧
  (∀ k0_t1 : Fin (k0_t1_loop v1).trips, ∀ a, (k0_off4 v1 k0_t1) a + S1x64x256.size a ≤ S1x64x2048.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off5 v1 k0_t2) a + S1x4x256.size a ≤ S1x4x2048.size a) ∧
  (∀ k0_t2 : Fin (k0_t2_loop v1).trips, ∀ a, (k0_off6 v1 k0_t2) a + S1x256x512.size a ≤ S1x2048x512.size a) ∧
  (∀ k0_t2 : Fin (k0_t2_loop v1).trips, ∀ a, (k0_off7 v1 k0_t2) a + S1x64x256.size a ≤ S1x64x2048.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x4x256.size a ≤ S1x4x2048.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S1x256x512.size a ≤ S1x2048x512.size a := fun v1 k0_hw1 k0_t1 => k0_hw1.2.2.2.1 k0_t1
theorem k0_off4_inb : ∀ (v1 : BitVec 32) (k0_hw1 : k0_chk1 v1) (k0_t1 : Fin (k0_t1_loop v1).trips), ∀ a, (k0_off4 v1 k0_t1) a + S1x64x256.size a ≤ S1x64x2048.size a := fun v1 k0_hw1 k0_t1 => k0_hw1.2.2.2.2.1 k0_t1
theorem k0_t2_ok : ∀ (v1 : BitVec 32) (k0_hw1 : k0_chk1 v1), (k0_t2_loop v1).OK := fun v1 k0_hw1 => k0_hw1.2.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.2.2.2.2.2.2.1 k0_t2
theorem k0_off5_inb : ∀ (v1 : BitVec 32) (k0_hw1 : k0_chk1 v1) (k0_t2 : Fin (k0_t2_loop v1).trips), ∀ a, (k0_off5 v1 k0_t2) a + S1x4x256.size a ≤ S1x4x2048.size a := fun v1 k0_hw1 k0_t2 => k0_hw1.2.2.2.2.2.2.2.1 k0_t2
theorem k0_off6_inb : ∀ (v1 : BitVec 32) (k0_hw1 : k0_chk1 v1) (k0_t2 : Fin (k0_t2_loop v1).trips), ∀ a, (k0_off6 v1 k0_t2) a + S1x256x512.size a ≤ S1x2048x512.size a := fun v1 k0_hw1 k0_t2 => k0_hw1.2.2.2.2.2.2.2.2.1 k0_t2
theorem k0_off7_inb : ∀ (v1 : BitVec 32) (k0_hw1 : k0_chk1 v1) (k0_t2 : Fin (k0_t2_loop v1).trips), ∀ a, (k0_off7 v1 k0_t2) a + S1x64x256.size a ≤ S1x64x2048.size a := fun v1 k0_hw1 k0_t2 => k0_hw1.2.2.2.2.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "exp2_scale" => some (((Real.sqrt 192)⁻¹ * (Real.log 2)⁻¹ : ℝ) : EReal)
  | "minus_inf" => some ⊥
  | _ => none
-- ==== ReferenceIdeal.lean ====
abbrev S64x4x128x512 : Shape := ⟨4, ![64, 4, 128, 512]⟩
abbrev S64x4x128x64 : Shape := ⟨4, ![64, 4, 128, 64]⟩
abbrev S64x4x512 : Shape := ⟨3, ![64, 4, 512]⟩
abbrev S64x4x64 : Shape := ⟨3, ![64, 4, 64]⟩
abbrev S64x2048x512 : Shape := ⟨3, ![64, 2048, 512]⟩
abbrev S64x2048x4 : Shape := ⟨3, ![64, 2048, 4]⟩
abbrev S64x2048x64 : Shape := ⟨3, ![64, 2048, 64]⟩
abbrev S64 : Shape := ⟨1, ![64]⟩
abbrev S_ : Shape := ⟨0, ![]⟩
abbrev S64x2048x4x128 : Shape := ⟨4, ![64, 2048, 4, 128]⟩
abbrev S64x2048x4x1 : Shape := ⟨4, ![64, 2048, 4, 1]⟩
abbrev S64x4x128x576 : Shape := ⟨4, ![64, 4, 128, 576]⟩
abbrev S64x2048x576 : Shape := ⟨3, ![64, 2048, 576]⟩
abbrev S64x4x576 : Shape := ⟨3, ![64, 4, 576]⟩
abbrev S64x4x128x2048 : Shape := ⟨4, ![64, 4, 128, 2048]⟩
abbrev S64x4x128x4 : Shape := ⟨4, ![64, 4, 128, 4]⟩
abbrev S2048 : Shape := ⟨1, ![2048]⟩
abbrev S1x2048 : Shape := ⟨2, ![1, 2048]⟩
abbrev S64x1 : Shape := ⟨2, ![64, 1]⟩
abbrev S64x2048 : Shape := ⟨2, ![64, 2048]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S64x1x1x2048 : Shape := ⟨4, ![64, 1, 1, 2048]⟩
abbrev S1x4x1x4 : Shape := ⟨4, ![1, 4, 1, 4]⟩
abbrev S64x4x128x2052 : Shape := ⟨4, ![64, 4, 128, 2052]⟩
abbrev S64x4x128 : Shape := ⟨3, ![64, 4, 128]⟩
abbrev S64x4x128x1 : Shape := ⟨4, ![64, 4, 128, 1]⟩
abbrev S64x512x512 : Shape := ⟨3, ![64, 512, 512]⟩

abbrev nBuf : Space → Nat
  | .hbm => 73
  | .vmem => 2
  | .smem => 0
  | _ => 0

abbrev bufTy : (tb : Table) → Fin (tcTables nBuf tb) → BufTy
  | .hbm, ⟨0, _⟩ => ⟨S64x4x128x512, .bf16⟩
  | .hbm, ⟨1, _⟩ => ⟨S64x4x128x64, .bf16⟩
  | .hbm, ⟨2, _⟩ => ⟨S64x4x512, .bf16⟩
  | .hbm, ⟨3, _⟩ => ⟨S64x4x64, .bf16⟩
  | .hbm, ⟨4, _⟩ => ⟨S64x2048x512, .fp8e4m3⟩
  | .hbm, ⟨5, _⟩ => ⟨S64x2048x4, .f32⟩
  | .hbm, ⟨6, _⟩ => ⟨S64x2048x64, .bf16⟩
  | .hbm, ⟨7, _⟩ => ⟨S64, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64x2048x512, .bf16⟩
  | .hbm, ⟨13, _⟩ => ⟨S64x2048x4x128, .bf16⟩
  | .hbm, ⟨14, _⟩ => ⟨S64x2048x4, .bf16⟩
  | .hbm, ⟨15, _⟩ => ⟨S64x2048x4x1, .bf16⟩
  | .hbm, ⟨16, _⟩ => ⟨S64x2048x4x128, .bf16⟩
  | .hbm, ⟨17, _⟩ => ⟨S64x2048x4x128, .bf16⟩
  | .hbm, ⟨18, _⟩ => ⟨S64x2048x512, .bf16⟩
  | .hbm, ⟨19, _⟩ => ⟨S64x4x128x576, .bf16⟩
  | .hbm, ⟨20, _⟩ => ⟨S64x2048x576, .bf16⟩
  | .hbm, ⟨21, _⟩ => ⟨S64x4x576, .bf16⟩
  | .hbm, ⟨22, _⟩ => ⟨S64x4x128x2048, .f32⟩
  | .hbm, ⟨23, _⟩ => ⟨S64x4x128x2048, .f32⟩
  | .hbm, ⟨24, _⟩ => ⟨S64x4x128x2048, .f32⟩
  | .hbm, ⟨25, _⟩ => ⟨S64x4x128x4, .f32⟩
  | .hbm, ⟨26, _⟩ => ⟨S64x4x128x4, .f32⟩
  | .hbm, ⟨27, _⟩ => ⟨S64x4x128x4, .f32⟩
  | .hbm, ⟨28, _⟩ => ⟨S2048, .i32⟩
  | .hbm, ⟨29, _⟩ => ⟨S1x2048, .i32⟩
  | .hbm, ⟨30, _⟩ => ⟨S64x1, .i32⟩
  | .hbm, ⟨31, _⟩ => ⟨S64x2048, .i32⟩
  | .hbm, ⟨32, _⟩ => ⟨S64x2048, .i32⟩
  | .hbm, ⟨33, _⟩ => ⟨S64x2048, .i1⟩
  | .hbm, ⟨34, _⟩ => ⟨S4, .i32⟩
  | .hbm, ⟨35, _⟩ => ⟨S1x4, .i32⟩
  | .hbm, ⟨36, _⟩ => ⟨S4, .i32⟩
  | .hbm, ⟨37, _⟩ => ⟨S4x1, .i32⟩
  | .hbm, ⟨38, _⟩ => ⟨S4x4, .i32⟩
  | .hbm, ⟨39, _⟩ => ⟨S4x4, .i32⟩
  | .hbm, ⟨40, _⟩ => ⟨S4x4, .i1⟩
  | .hbm, ⟨41, _⟩ => ⟨S64x1x1x2048, .i1⟩
  | .hbm, ⟨42, _⟩ => ⟨S_, .f32⟩
  | .hbm, ⟨43, _⟩ => ⟨S_, .f32⟩
  | .hbm, ⟨44, _⟩ => ⟨S64x4x128x2048, .i1⟩
  | .hbm, ⟨45, _⟩ => ⟨S64x4x128x2048, .f32⟩
  | .hbm, ⟨46, _⟩ => ⟨S64x4x128x2048, .f32⟩
  | .hbm, ⟨47, _⟩ => ⟨S1x4x1x4, .i1⟩
  | .hbm, ⟨48, _⟩ => ⟨S_, .f32⟩
  | .hbm, ⟨49, _⟩ => ⟨S_, .f32⟩
  | .hbm, ⟨50, _⟩ => ⟨S64x4x128x4, .i1⟩
  | .hbm, ⟨51, _⟩ => ⟨S64x4x128x4, .f32⟩
  | .hbm, ⟨52, _⟩ => ⟨S64x4x128x4, .f32⟩
  | .hbm, ⟨53, _⟩ => ⟨S64x4x128x2052, .f32⟩
  | .hbm, ⟨54, _⟩ => ⟨S_, .f32⟩
  | .hbm, ⟨55, _⟩ => ⟨S64x4x128, .f32⟩
  | .hbm, ⟨56, _⟩ => ⟨S64x4x128x1, .f32⟩
  | .hbm, ⟨57, _⟩ => ⟨S64x4x128x2052, .f32⟩
  | .hbm, ⟨58, _⟩ => ⟨S64x4x128x2052, .f32⟩
  | .hbm, ⟨59, _⟩ => ⟨S64x4x128x2052, .f32⟩
  | .hbm, ⟨60, _⟩ => ⟨S64x4x128x2052, .bf16⟩
  | .hbm, ⟨61, _⟩ => ⟨S64x4x128x2048, .bf16⟩
  | .hbm, ⟨62, _⟩ => ⟨S64x4x128x4, .bf16⟩
  | .hbm, ⟨63, _⟩ => ⟨S64x4x128x512, .f32⟩
  | .hbm, ⟨64, _⟩ => ⟨S64x4x128x512, .f32⟩
  | .hbm, ⟨65, _⟩ => ⟨S64x4x128x512, .f32⟩
  | .hbm, ⟨66, _⟩ => ⟨S_, .f32⟩
  | .hbm, ⟨67, _⟩ => ⟨S64x4x128, .f32⟩
  | .hbm, ⟨68, _⟩ => ⟨S64x4x128x1, .f32⟩
  | .hbm, ⟨69, _⟩ => ⟨S64x4x128x512, .f32⟩
  | .hbm, ⟨70, _⟩ => ⟨S64x4x128x512, .f32⟩
  | .hbm, ⟨71, _⟩ => ⟨S64x4x128x512, .bf16⟩
  | .hbm, ⟨72, _⟩ => ⟨S64x512x512, .bf16⟩
  | .local _ .vmem, ⟨0, _⟩ => ⟨S64x2048x512, .fp8e4m3⟩
  | .local _ .vmem, ⟨1, _⟩ => ⟨S64x2048x512, .bf16⟩
  | _, _ => ⟨S64x4x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x2048x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Kit.lean ====
/- The frame kit of `Kernel`: the schedule of its windows, @main up to its one region, the contents of the arrays
   there, each window's block at a grid point, the memrefs the body is called with, and the scratch operands. -/
module

public import proofs.«01_k».proof.Proof.Gen.Kernel.Launch
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%2)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (operand 7 (%3)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 0 (by decide) (by decide) (Pipeline.Window.sep_of_coord cc0_transform_6 0 0 (fun _ => rfl) (by decide)) (P := 1) (by decide) t).mpr (Nat.mod_one _) : ∀ t : Fin grid0.N, Pipeline.Window.fetchOf grid0 false cc0_transform_6 t = true)
/-- Window 7 (result 0 (%4)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- One staging buffer of output window 7, through which its contents are stated (`View.read_writes_of_cover`: the
    choice does not matter). -/
abbrev VO0_7 : View sig .tc .vmem S1x512x512 .bf16 := (Memref.whole cc0_stg7_0 : Memref sig .tc .vmem S1x512x512 .bf16).view
/-- Each window's current staging memref at point `t`, spelled as the pipeline passes it (`bodyAt0`), and its wholeness. -/
abbrev ms0_0 (hO : Ok m) (t : Fin (cfgM m hO).N) : Memref sig .tc .vmem S1x512x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x64x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x2048 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x2048 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x512x512 .bf16 := spec0_7.stage ((cfgM m hO).slots t 7)
abbrev hs0_7 (hO : Ok m) (t : Fin (cfgM m hO).N) : (ms0_7 m hO t).IsWhole := hstage0_7 (((cfgM m hO).slots t 7).cast nbuf0_7)

/-- The scratch operands: whole scoped buffers of the kernel's own, passed beside the windows. -/
abbrev scM0_0 : Memref sig .tc .vmem S512x128 .bf16 := Memref.whole cc0_scratch0
abbrev scM0_1 : Memref sig .tc .vmem S256x512 .bf16 := Memref.whole cc0_scratch1
abbrev scM0_2 : Memref sig .tc .vmem S128x256 .bf16 := Memref.whole cc0_scratch2
abbrev scM0_3 : Memref sig .tc .vmem S512x512 .f32 := Memref.whole cc0_scratch3
abbrev scM0_4 : Memref sig .tc .vmem S512x128 .f32 := Memref.whole cc0_scratch4
abbrev scM0_5 : Memref sig .tc .vmem S512x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.Kernel.Words.lean ====
/- Word facts of `Kernel`: the trip counts of its counted loops, and the side condition the body assumes of the
   cache length it reads, which holds of every word. -/
module

public import proofs.«01_k».proof.Proof.Gen.Kernel
public import Mathlib.Tactic.NormNum
public import Mathlib.Tactic.IntervalCases
public import Mathlib.Tactic.FinCases

@[expose] public section

set_option maxRecDepth 16384

noncomputable section

namespace Cert.Kernel.Gen

open Idealize.ShloMosaic

/-- Division by one is the identity. -/
theorem divsi_one (x : BitVec 32) : Scalar.divsi x 1#32 = x := by
  have h : ¬ IntOp.SDivCorner x 1#32 := by
    rintro (h | ⟨_, h⟩)
    · exact absurd h (by decide)
    · exact absurd h (by decide)
  show (if IntOp.SDivCorner x 1#32 then _ else x.sdiv 1#32) = x
  rw [if_neg h, BitVec.sdiv_one]

/-- The number of tiles of a cache length, as the kernel computes it: `(len + 4 + 255) / 256`. -/
def tilesW (v1 : BitVec 32) : BitVec 32 := Scalar.divsi (Scalar.subi (Scalar.addi (Scalar.addi v1 4#32) 256#32) 1#32) 256#32

/-- The first loop's bounds are nothing and the number of tiles, its step one. -/
theorem t1_loop_eq (v1 : BitVec 32) : k0_t1_loop v1 = ⟨0#32, tilesW v1, 1#32⟩ := by
  show (⟨0#32, Scalar.addi 0#32 (Scalar.muli (Scalar.divsi (Scalar.subi (tilesW v1) 0#32) 1#32) 1#32), 1#32⟩ : Scf.Loop 32) = _
  rw [divsi_one]
  have : Scalar.addi 0#32 (Scalar.muli (Scalar.subi (tilesW v1) 0#32) 1#32) = tilesW v1 := by
    show 0#32 + (tilesW v1 - 0#32) * 1#32 = _
    simp
  rw [this]

/-- The second loop's bounds are both the number of tiles. -/
theorem t2_loop_eq (v1 : BitVec 32) : k0_t2_loop v1 = ⟨tilesW v1, tilesW v1, 1#32⟩ := by
  show (⟨Scalar.addi 0#32 (Scalar.muli (Scalar.divsi (Scalar.subi (tilesW v1) 0#32) 1#32) 1#32), Scalar.addi 0#32 (Scalar.subi (tilesW v1) 0#32), 1#32⟩ : Scf.Loop 32) = _
  rw [divsi_one]
  have h1 : Scalar.addi 0#32 (Scalar.muli (Scalar.subi (tilesW v1) 0#32) 1#32) = tilesW v1 := by
    show 0#32 + (tilesW v1 - 0#32) * 1#32 = _
    simp
  have h2 : Scalar.addi 0#32 (Scalar.subi (tilesW v1) 0#32) = tilesW v1 := by
    show 0#32 + (tilesW v1 - 0#32) = _
    simp
  rw [h1, h2]

/-- The first loop makes one trip per tile, none when the number of tiles is negative. -/
theorem t1_trips (v1 : BitVec 32) : (k0_t1_loop v1).trips = (tilesW v1).toInt.toNat := by
  rw [t1_loop_eq]
  show (((tilesW v1).toInt - (0#32).toInt + (1#32).toInt - 1) / (1#32).toInt).toNat = _
  have h0 : (0#32).toInt = 0 := by decide
  have h1 : (1#32).toInt = 1 := by decide
  rw [h0, h1]; congr 1; simp

/-- The second loop makes no trip. -/
theorem t2_trips (v1 : BitVec 32) : (k0_t2_loop v1).trips = 0 := by
  rw [t2_loop_eq]
  show (((tilesW v1).toInt - (tilesW v1).toInt + (1#32).toInt - 1) / (1#32).toInt).toNat = _
  have h1 : (1#32).toInt = 1 := by decide
  rw [h1]; simp

theorem t1_trips_lt (v1 : BitVec 32) : (k0_t1_loop v1).trips < 2 ^ 31 := by
  rw [t1_trips]
  have := (tilesW v1).toInt_lt
  norm_num at this
  omega

/-- The tile index, clamped to the last tile of the cache. -/
theorem minsi_iv (k : ℕ) (hk : k < 2 ^ 31) : Scalar.minsi (Scf.iv 0#32 1#32 k) 7#32 = BitVec.ofNat 32 (min k 7) := by
  have hiv : Scf.iv 0#32 1#32 k = BitVec.ofNat 32 k := by
    show 0#32 + BitVec.ofNat 32 k * 1#32 = _
    simp
  rw [hiv]
  show (if (BitVec.ofNat 32 k).slt 7#32 then BitVec.ofNat 32 k else 7#32) = _
  have hn : (BitVec.ofNat 32 k).toInt = k := by
    rw [BitVec.toInt_eq_toNat_cond, BitVec.toNat_ofNat, Nat.mod_eq_of_lt (by omega)]
    rw [if_pos (by omega)]
  have h7 : (7#32).toInt = 7 := by decide
  simp only [BitVec.slt, hn, h7, decide_eq_true_eq]
  split
  · rw [min_eq_left (by omega)]
  · rw [min_eq_right (by omega)]

/-- The first column of the tile that trip `k` reads. -/
theorem base_eq (k : ℕ) (hk : k < 2 ^ 31) :
    (Scalar.muli (Scalar.minsi (Scf.iv 0#32 1#32 k) 7#32) 256#32).toNat = min k 7 * 256 := by
  rw [minsi_iv k hk]
  show (BitVec.ofNat 32 (min k 7) * 256#32).toNat = _
  have : min k 7 ≤ 7 := min_le_right _ _
  generalize min k 7 = j at this
  interval_cases j <;> rfl

theorem ok_of (ub lb : BitVec 32) (h0 : lb.toInt = 0) (h : (⟨lb, ub, 1#32⟩ : Scf.Loop 32).trips < 2 ^ 31) :
    (⟨lb, ub, 1#32⟩ : Scf.Loop 32).OK := by
  have h1 : (1#32).toInt = 1 := by decide
  refine ⟨?_, ?_⟩
  · show 0 < (1#32).toInt
    rw [h1]; exact Int.one_pos
  · have h2 : Scf.trips lb ub 1#32 < 2 ^ 31 := h
    show lb.toInt + (Scf.trips lb ub 1#32 : ℤ) * (1#32).toInt < 2 ^ 31
    rw [h0, h1]
    have : ((Scf.trips lb ub 1#32 : ℕ) : ℤ) < 2 ^ 31 := by exact_mod_cast h2
    omega

theorem ok_of' (ub : BitVec 32) (h : (⟨ub, ub, 1#32⟩ : Scf.Loop 32).trips = 0) :
    (⟨ub, ub, 1#32⟩ : Scf.Loop 32).OK := by
  have h1 : (1#32).toInt = 1 := by decide
  refine ⟨?_, ?_⟩
  · show 0 < (1#32).toInt
    rw [h1]; exact Int.one_pos
  · have h2 : Scf.trips ub ub 1#32 = 0 := h
    show ub.toInt + (Scf.trips ub ub 1#32 : ℤ) * (1#32).toInt < 2 ^ 31
    rw [h2]
    have := ub.toInt_lt
    norm_num at this ⊢
    exact this

/-- The side condition the body assumes holds of every cache length. -/
theorem chk1_all (v1 : BitVec 32) : k0_chk1 v1 := by
  have hb : ∀ k : Fin (k0_t1_loop v1).trips, (k0_mult1 v1 k).toNat = min k.val 7 * 256 := fun k =>
    base_eq k.val (lt_trans k.isLt (t1_trips_lt v1))
  have hle : ∀ k : ℕ, min k 7 ≤ 7 := fun k => min_le_right _ _
  have hno : ∀ k : Fin (k0_t2_loop v1).trips, False := fun k => by
    have h := k.isLt
    have h0 : (k0_t2_loop v1).trips = 0 := t2_trips v1
    omega
  refine ⟨?_, ?_, ?_, ?_, ?_, ?_, fun k => (hno k).elim, fun k => (hno k).elim, fun k => (hno k).elim, fun k => (hno k).elim⟩
  · have h := t1_trips_lt v1
    rw [t1_loop_eq] at h ⊢
    exact ok_of (tilesW v1) 0#32 (by decide) h
  · intro k; rw [hb k]; exact ⟨_, Nat.mul_comm _ _⟩
  · intro k a
    have h := hb k
    have h7 := hle k.val
    have ho : k0_off2 v1 k = ![0, 0, (k0_mult1 v1 k).toNat] := rfl
    rw [ho, h]
    fin_cases a
    · show 0 + 1 ≤ 1; omega
    · show 0 + 4 ≤ 4; omega
    · show min k.val 7 * 256 + 256 ≤ 2048; omega
  · intro k a
    have h := hb k
    have h7 := hle k.val
    have ho : k0_off3 v1 k = ![0, (k0_mult1 v1 k).toNat, 0] := rfl
    rw [ho, h]
    fin_cases a
    · show 0 + 1 ≤ 1; omega
    · show min k.val 7 * 256 + 256 ≤ 2048; omega
    · show 0 + 512 ≤ 512; omega
  · intro k a
    have h := hb k
    have h7 := hle k.val
    have ho : k0_off4 v1 k = ![0, 0, (k0_mult1 v1 k).toNat] := rfl
    rw [ho, h]
    fin_cases a
    · show 0 + 1 ≤ 1; omega
    · show 0 + 64 ≤ 64; omega
    · show min k.val 7 * 256 + 256 ≤ 2048; omega
  · have h : (k0_t2_loop v1).trips = 0 := t2_trips v1
    rw [t2_loop_eq] at h ⊢
    exact ok_of' (tilesW v1) h

end Cert.Kernel.Gen

end
-- ==== Proof.Kernel.Run.lean ====
/- One run of the body of `Kernel`, at explicit contents of its windows and scratch buffers: what it writes to the
   output window, and that it leaves everything else usable. -/
module

public import proofs.«01_k».proof.Proof.Gen.Kernel.Skeleton
public import proofs.«01_k».proof.Proof.Gen.Kernel.Loops
public import proofs.«01_k».proof.Proof.Kernel.Kit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output window's buffer, as pieces, WITH the proof that on whole buffers — the
    inputs' and the scratch buffers' at given contents, the output's at anything — the body runs to the end, leaving the
    inputs' buffers as they were, the scratch buffers at some contents, and the output's buffer with its pieces written. -/
noncomputable def kernelRun (c : Dev nD) (i : grid0.Coords) (arg2 : Memref sig .tc .vmem S1x512x512 .bf16) (harg2 : arg2.IsWhole) (arg3 : Memref sig .tc .vmem S1x4x64x128 .bf16) (harg3 : arg3.IsWhole) (arg4 : Memref sig .tc .vmem S1x4x512 .bf16) (harg4 : arg4.IsWhole) (arg5 : Memref sig .tc .vmem S1x4x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x512x512 .bf16) (harg9 : arg9.IsWhole) (arg10 : Memref sig .tc .vmem S512x128 .bf16) (harg10 : arg10.IsWhole) (arg11 : Memref sig .tc .vmem S256x512 .bf16) (harg11 : arg11.IsWhole) (arg12 : Memref sig .tc .vmem S128x256 .bf16) (harg12 : arg12.IsWhole) (arg13 : Memref sig .tc .vmem S512x512 .f32) (harg13 : arg13.IsWhole) (arg14 : Memref sig .tc .vmem S512x128 .f32) (harg14 : arg14.IsWhole) (arg15 : Memref sig .tc .vmem S512x128 .f32) (harg15 : arg15.IsWhole)
    (x0 : Vec F S1x512x512 .bf16) (x1 : Vec F S1x4x64x128 .bf16) (x2 : Vec F S1x4x512 .bf16) (x3 : Vec F S1x4x64 .bf16) (x4 : Vec F S1x2048x512 .fp8e4m3) (x5 : Vec F S1x4x2048 .f32) (x6 : Vec F S1x64x2048 .bf16) (y0 : Vec F S512x128 .bf16) (y1 : Vec F S256x512 .bf16) (y2 : Vec F S128x256 .bf16) (y3 : Vec F S512x512 .f32) (y4 : Vec F S512x128 .f32) (y5 : Vec F S512x128 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    { L7 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare y4 ∗ owns (c : Thread nD τ) arg15 fullShare y5 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_mla_decode_eq_skeleton]; unfold cc0_mla_decode_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.Kernel.Gen

end
-- ==== Proof.Kernel.Frame.lean ====
/- The frame of `Kernel`: the proof data of its pipeline with the output window forgotten, the body obligation, the launch. -/
module

public import proofs.«01_k».proof.Proof.Gen.Kernel.Launch
public import proofs.«01_k».proof.Proof.Kernel.Kit
public import proofs.«01_k».proof.Proof.Kernel.Words
public import proofs.«01_k».proof.Proof.Kernel.Run
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block (the output's is forgotten); the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => fun _ => Classical.arbitrary _
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ X, owns (c : Thread nD τ) (ms0_7 m hO t) fullShare X))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ X, owns (c : Thread nD τ) (ms0_7 m hO t) fullShare X))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨⟨⟨%z0, HS0⟩, ⟨%z1, HS1⟩, ⟨%z2, HS2⟩, ⟨%z3, HS3⟩, ⟨%z4, HS4⟩, ⟨%z5, HS5⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) z0 z1 z2 z3 z4 z5 (tbl m 0) (chk1_all _)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, ⟨%e7, H7⟩, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _, _; isplitr
  swap; · iexact H7
  ipureintro; rfl

/-- The output window, whose contents the frame forgets. -/
def fgt (hO : Ok m) : Fin (cfgM m hO).W → Bool := fun w => match w with
  | ⟨7, _⟩ => true
  | _ => false

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ (fgt m hO) := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost (cfgM m hO) (fun c => (dats m hO 0 c).toRForget (fgt m hO)) (V m)) r ∧ r.2.sem = fun _ => 0) :=
  Pipeline.θ_run_frameP_forget (Q' := _) pcfgs (fun _ => adm m hO) (dats m hO) (0 : Fin 1) launch0 defs₀ Variants.none (fgt m hO) m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.RDat.FramePost (cfgM m hO) (fun c => (dats m hO 0 c).toRForget (fgt m hO)) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (((dats m hO 0 c).toRForget_arrAt_iff (fgt := fgt m hO) (w := 2) rfl _ _).mp ((h c).1 2)).trans (((dats m hO 0 c).arrAt_in 2 rfl _).trans ((A_eq m hO c 2).trans (V_main_arg2 m c))),
      (((dats m hO 0 c).toRForget_arrAt_iff (fgt := fgt m hO) (w := 3) rfl _ _).mp ((h c).1 3)).trans (((dats m hO 0 c).arrAt_in 3 rfl _).trans ((A_eq m hO c 3).trans (V_main_arg3 m c))),
      (((dats m hO 0 c).toRForget_arrAt_iff (fgt := fgt m hO) (w := 4) rfl _ _).mp ((h c).1 4)).trans (((dats m hO 0 c).arrAt_in 4 rfl _).trans ((A_eq m hO c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hO)

/-- THE FRAME: every execution ends, the arguments end unchanged, and every counter ends at zero (`Cert.quiescent_Kernel` at any `F`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Gen

end
-- ==== Proof.KernelIdeal.Kit.lean ====
/- The frame kit of `KernelIdeal`: the schedule of its windows, @main up to its one region, the contents of the arrays
   there, each window's block at a grid point, the memrefs the body is called with, and the scratch operands. -/
module

public import proofs.«01_k».proof.Proof.Gen.KernelIdeal.Launch
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%2)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (operand 7 (%3)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 0 (by decide) (by decide) (Pipeline.Window.sep_of_coord cc0_transform_6 0 0 (fun _ => rfl) (by decide)) (P := 1) (by decide) t).mpr (Nat.mod_one _) : ∀ t : Fin grid0.N, Pipeline.Window.fetchOf grid0 false cc0_transform_6 t = true)
/-- Window 7 (result 0 (%4)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- One staging buffer of output window 7, through which its contents are stated (`View.read_writes_of_cover`: the
    choice does not matter). -/
abbrev VO0_7 : View sig .tc .vmem S1x512x512 .bf16 := (Memref.whole cc0_stg7_0 : Memref sig .tc .vmem S1x512x512 .bf16).view
/-- Each window's current staging memref at point `t`, spelled as the pipeline passes it (`bodyAt0`), and its wholeness. -/
abbrev ms0_0 (hO : Ok m) (t : Fin (cfgM m hO).N) : Memref sig .tc .vmem S1x512x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x64x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x2048 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x2048 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x512x512 .bf16 := spec0_7.stage ((cfgM m hO).slots t 7)
abbrev hs0_7 (hO : Ok m) (t : Fin (cfgM m hO).N) : (ms0_7 m hO t).IsWhole := hstage0_7 (((cfgM m hO).slots t 7).cast nbuf0_7)

/-- The scratch operands: whole scoped buffers of the kernel's own, passed beside the windows. -/
abbrev scM0_0 : Memref sig .tc .vmem S512x128 .bf16 := Memref.whole cc0_scratch0
abbrev scM0_1 : Memref sig .tc .vmem S256x512 .bf16 := Memref.whole cc0_scratch1
abbrev scM0_2 : Memref sig .tc .vmem S128x256 .bf16 := Memref.whole cc0_scratch2
abbrev scM0_3 : Memref sig .tc .vmem S512x512 .f32 := Memref.whole cc0_scratch3
abbrev scM0_4 : Memref sig .tc .vmem S512x128 .f32 := Memref.whole cc0_scratch4
abbrev scM0_5 : Memref sig .tc .vmem S512x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.KernelIdeal.Words.lean ====
/- Word facts of `KernelIdeal`: the trip counts of its counted loops, and the side condition the body assumes of the
   cache length it reads, which holds of every word. -/
module

public import proofs.«01_k».proof.Proof.Gen.KernelIdeal
public import Mathlib.Tactic.NormNum
public import Mathlib.Tactic.IntervalCases
public import Mathlib.Tactic.FinCases

@[expose] public section

set_option maxRecDepth 16384

noncomputable section

namespace Cert.KernelIdeal.Gen

open Idealize.ShloMosaic

/-- Division by one is the identity. -/
theorem divsi_one (x : BitVec 32) : Scalar.divsi x 1#32 = x := by
  have h : ¬ IntOp.SDivCorner x 1#32 := by
    rintro (h | ⟨_, h⟩)
    · exact absurd h (by decide)
    · exact absurd h (by decide)
  show (if IntOp.SDivCorner x 1#32 then _ else x.sdiv 1#32) = x
  rw [if_neg h, BitVec.sdiv_one]

/-- The number of tiles of a cache length, as the kernel computes it: `(len + 4 + 255) / 256`. -/
def tilesW (v1 : BitVec 32) : BitVec 32 := Scalar.divsi (Scalar.subi (Scalar.addi (Scalar.addi v1 4#32) 256#32) 1#32) 256#32

/-- The first loop's bounds are nothing and the number of tiles, its step one. -/
theorem t1_loop_eq (v1 : BitVec 32) : k0_t1_loop v1 = ⟨0#32, tilesW v1, 1#32⟩ := by
  show (⟨0#32, Scalar.addi 0#32 (Scalar.muli (Scalar.divsi (Scalar.subi (tilesW v1) 0#32) 1#32) 1#32), 1#32⟩ : Scf.Loop 32) = _
  rw [divsi_one]
  have : Scalar.addi 0#32 (Scalar.muli (Scalar.subi (tilesW v1) 0#32) 1#32) = tilesW v1 := by
    show 0#32 + (tilesW v1 - 0#32) * 1#32 = _
    simp
  rw [this]

/-- The second loop's bounds are both the number of tiles. -/
theorem t2_loop_eq (v1 : BitVec 32) : k0_t2_loop v1 = ⟨tilesW v1, tilesW v1, 1#32⟩ := by
  show (⟨Scalar.addi 0#32 (Scalar.muli (Scalar.divsi (Scalar.subi (tilesW v1) 0#32) 1#32) 1#32), Scalar.addi 0#32 (Scalar.subi (tilesW v1) 0#32), 1#32⟩ : Scf.Loop 32) = _
  rw [divsi_one]
  have h1 : Scalar.addi 0#32 (Scalar.muli (Scalar.subi (tilesW v1) 0#32) 1#32) = tilesW v1 := by
    show 0#32 + (tilesW v1 - 0#32) * 1#32 = _
    simp
  have h2 : Scalar.addi 0#32 (Scalar.subi (tilesW v1) 0#32) = tilesW v1 := by
    show 0#32 + (tilesW v1 - 0#32) = _
    simp
  rw [h1, h2]

/-- The first loop makes one trip per tile, none when the number of tiles is negative. -/
theorem t1_trips (v1 : BitVec 32) : (k0_t1_loop v1).trips = (tilesW v1).toInt.toNat := by
  rw [t1_loop_eq]
  show (((tilesW v1).toInt - (0#32).toInt + (1#32).toInt - 1) / (1#32).toInt).toNat = _
  have h0 : (0#32).toInt = 0 := by decide
  have h1 : (1#32).toInt = 1 := by decide
  rw [h0, h1]; congr 1; simp

/-- The second loop makes no trip. -/
theorem t2_trips (v1 : BitVec 32) : (k0_t2_loop v1).trips = 0 := by
  rw [t2_loop_eq]
  show (((tilesW v1).toInt - (tilesW v1).toInt + (1#32).toInt - 1) / (1#32).toInt).toNat = _
  have h1 : (1#32).toInt = 1 := by decide
  rw [h1]; simp

theorem t1_trips_lt (v1 : BitVec 32) : (k0_t1_loop v1).trips < 2 ^ 31 := by
  rw [t1_trips]
  have := (tilesW v1).toInt_lt
  norm_num at this
  omega

/-- The tile index, clamped to the last tile of the cache. -/
theorem minsi_iv (k : ℕ) (hk : k < 2 ^ 31) : Scalar.minsi (Scf.iv 0#32 1#32 k) 7#32 = BitVec.ofNat 32 (min k 7) := by
  have hiv : Scf.iv 0#32 1#32 k = BitVec.ofNat 32 k := by
    show 0#32 + BitVec.ofNat 32 k * 1#32 = _
    simp
  rw [hiv]
  show (if (BitVec.ofNat 32 k).slt 7#32 then BitVec.ofNat 32 k else 7#32) = _
  have hn : (BitVec.ofNat 32 k).toInt = k := by
    rw [BitVec.toInt_eq_toNat_cond, BitVec.toNat_ofNat, Nat.mod_eq_of_lt (by omega)]
    rw [if_pos (by omega)]
  have h7 : (7#32).toInt = 7 := by decide
  simp only [BitVec.slt, hn, h7, decide_eq_true_eq]
  split
  · rw [min_eq_left (by omega)]
  · rw [min_eq_right (by omega)]

/-- The first column of the tile that trip `k` reads. -/
theorem base_eq (k : ℕ) (hk : k < 2 ^ 31) :
    (Scalar.muli (Scalar.minsi (Scf.iv 0#32 1#32 k) 7#32) 256#32).toNat = min k 7 * 256 := by
  rw [minsi_iv k hk]
  show (BitVec.ofNat 32 (min k 7) * 256#32).toNat = _
  have : min k 7 ≤ 7 := min_le_right _ _
  generalize min k 7 = j at this
  interval_cases j <;> rfl

theorem ok_of (ub lb : BitVec 32) (h0 : lb.toInt = 0) (h : (⟨lb, ub, 1#32⟩ : Scf.Loop 32).trips < 2 ^ 31) :
    (⟨lb, ub, 1#32⟩ : Scf.Loop 32).OK := by
  have h1 : (1#32).toInt = 1 := by decide
  refine ⟨?_, ?_⟩
  · show 0 < (1#32).toInt
    rw [h1]; exact Int.one_pos
  · have h2 : Scf.trips lb ub 1#32 < 2 ^ 31 := h
    show lb.toInt + (Scf.trips lb ub 1#32 : ℤ) * (1#32).toInt < 2 ^ 31
    rw [h0, h1]
    have : ((Scf.trips lb ub 1#32 : ℕ) : ℤ) < 2 ^ 31 := by exact_mod_cast h2
    omega

theorem ok_of' (ub : BitVec 32) (h : (⟨ub, ub, 1#32⟩ : Scf.Loop 32).trips = 0) :
    (⟨ub, ub, 1#32⟩ : Scf.Loop 32).OK := by
  have h1 : (1#32).toInt = 1 := by decide
  refine ⟨?_, ?_⟩
  · show 0 < (1#32).toInt
    rw [h1]; exact Int.one_pos
  · have h2 : Scf.trips ub ub 1#32 = 0 := h
    show ub.toInt + (Scf.trips ub ub 1#32 : ℤ) * (1#32).toInt < 2 ^ 31
    rw [h2]
    have := ub.toInt_lt
    norm_num at this ⊢
    exact this

/-- The side condition the body assumes holds of every cache length. -/
theorem chk1_all (v1 : BitVec 32) : k0_chk1 v1 := by
  have hb : ∀ k : Fin (k0_t1_loop v1).trips, (k0_mult1 v1 k).toNat = min k.val 7 * 256 := fun k =>
    base_eq k.val (lt_trans k.isLt (t1_trips_lt v1))
  have hle : ∀ k : ℕ, min k 7 ≤ 7 := fun k => min_le_right _ _
  have hno : ∀ k : Fin (k0_t2_loop v1).trips, False := fun k => by
    have h := k.isLt
    have h0 : (k0_t2_loop v1).trips = 0 := t2_trips v1
    omega
  refine ⟨?_, ?_, ?_, ?_, ?_, ?_, fun k => (hno k).elim, fun k => (hno k).elim, fun k => (hno k).elim, fun k => (hno k).elim⟩
  · have h := t1_trips_lt v1
    rw [t1_loop_eq] at h ⊢
    exact ok_of (tilesW v1) 0#32 (by decide) h
  · intro k; rw [hb k]; exact ⟨_, Nat.mul_comm _ _⟩
  · intro k a
    have h := hb k
    have h7 := hle k.val
    have ho : k0_off2 v1 k = ![0, 0, (k0_mult1 v1 k).toNat] := rfl
    rw [ho, h]
    fin_cases a
    · show 0 + 1 ≤ 1; omega
    · show 0 + 4 ≤ 4; omega
    · show min k.val 7 * 256 + 256 ≤ 2048; omega
  · intro k a
    have h := hb k
    have h7 := hle k.val
    have ho : k0_off3 v1 k = ![0, (k0_mult1 v1 k).toNat, 0] := rfl
    rw [ho, h]
    fin_cases a
    · show 0 + 1 ≤ 1; omega
    · show min k.val 7 * 256 + 256 ≤ 2048; omega
    · show 0 + 512 ≤ 512; omega
  · intro k a
    have h := hb k
    have h7 := hle k.val
    have ho : k0_off4 v1 k = ![0, 0, (k0_mult1 v1 k).toNat] := rfl
    rw [ho, h]
    fin_cases a
    · show 0 + 1 ≤ 1; omega
    · show 0 + 64 ≤ 64; omega
    · show min k.val 7 * 256 + 256 ≤ 2048; omega
  · have h : (k0_t2_loop v1).trips = 0 := t2_trips v1
    rw [t2_loop_eq] at h ⊢
    exact ok_of' (tilesW v1) h

end Cert.KernelIdeal.Gen

end
-- ==== Proof.KernelIdeal.Run.lean ====
/- One run of the body of `KernelIdeal`, at explicit contents of its windows and scratch buffers: what it writes to the
   output window, and that it leaves everything else usable. -/
module

public import proofs.«01_k».proof.Proof.Gen.KernelIdeal.Skeleton
public import proofs.«01_k».proof.Proof.Gen.KernelIdeal.Loops
public import proofs.«01_k».proof.Proof.KernelIdeal.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output window's buffer, as pieces, WITH the proof that on whole buffers — the
    inputs' and the scratch buffers' at given contents, the output's at anything — the body runs to the end, leaving the
    inputs' buffers as they were, the scratch buffers at some contents, and the output's buffer with its pieces written. -/
noncomputable def kernelRun (c : Dev nD) (i : grid0.Coords) (arg2 : Memref sig .tc .vmem S1x512x512 .bf16) (harg2 : arg2.IsWhole) (arg3 : Memref sig .tc .vmem S1x4x64x128 .bf16) (harg3 : arg3.IsWhole) (arg4 : Memref sig .tc .vmem S1x4x512 .bf16) (harg4 : arg4.IsWhole) (arg5 : Memref sig .tc .vmem S1x4x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x512x512 .bf16) (harg9 : arg9.IsWhole) (arg10 : Memref sig .tc .vmem S512x128 .bf16) (harg10 : arg10.IsWhole) (arg11 : Memref sig .tc .vmem S256x512 .bf16) (harg11 : arg11.IsWhole) (arg12 : Memref sig .tc .vmem S128x256 .bf16) (harg12 : arg12.IsWhole) (arg13 : Memref sig .tc .vmem S512x512 .f32) (harg13 : arg13.IsWhole) (arg14 : Memref sig .tc .vmem S512x128 .f32) (harg14 : arg14.IsWhole) (arg15 : Memref sig .tc .vmem S512x128 .f32) (harg15 : arg15.IsWhole)
    (x0 : Vec F S1x512x512 .bf16) (x1 : Vec F S1x4x64x128 .bf16) (x2 : Vec F S1x4x512 .bf16) (x3 : Vec F S1x4x64 .bf16) (x4 : Vec F S1x2048x512 .fp8e4m3) (x5 : Vec F S1x4x2048 .f32) (x6 : Vec F S1x64x2048 .bf16) (y0 : Vec F S512x128 .bf16) (y1 : Vec F S256x512 .bf16) (y2 : Vec F S128x256 .bf16) (y3 : Vec F S512x512 .f32) (y4 : Vec F S512x128 .f32) (y5 : Vec F S512x128 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    { L7 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare y4 ∗ owns (c : Thread nD τ) arg15 fullShare y5 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_mla_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_mla_decode_eq_skeleton]; unfold cc0_mla_decode_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.KernelIdeal.Gen

end
-- ==== Proof.KernelIdeal.Frame.lean ====
/- The frame of `KernelIdeal`: the proof data of its pipeline with the output window forgotten, the body obligation, the launch. -/
module

public import proofs.«01_k».proof.Proof.Gen.KernelIdeal.Launch
public import proofs.«01_k».proof.Proof.KernelIdeal.Kit
public import proofs.«01_k».proof.Proof.KernelIdeal.Words
public import proofs.«01_k».proof.Proof.KernelIdeal.Run
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block (the output's is forgotten); the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => fun _ => Classical.arbitrary _
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ X, owns (c : Thread nD τ) (ms0_7 m hO t) fullShare X))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ X, owns (c : Thread nD τ) (ms0_7 m hO t) fullShare X))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨⟨⟨%z0, HS0⟩, ⟨%z1, HS1⟩, ⟨%z2, HS2⟩, ⟨%z3, HS3⟩, ⟨%z4, HS4⟩, ⟨%z5, HS5⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) z0 z1 z2 z3 z4 z5 (tbl m 0) (chk1_all _)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, ⟨%e7, H7⟩, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _, _; isplitr
  swap; · iexact H7
  ipureintro; rfl

/-- The output window, whose contents the frame forgets. -/
def fgt (hO : Ok m) : Fin (cfgM m hO).W → Bool := fun w => match w with
  | ⟨7, _⟩ => true
  | _ => false

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ (fgt m hO) := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost (cfgM m hO) (fun c => (dats m hO 0 c).toRForget (fgt m hO)) (V m)) r ∧ r.2.sem = fun _ => 0) :=
  Pipeline.θ_run_frameP_forget (Q' := _) pcfgs (fun _ => adm m hO) (dats m hO) (0 : Fin 1) launch0 defs₀ Variants.none (fgt m hO) m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.RDat.FramePost (cfgM m hO) (fun c => (dats m hO 0 c).toRForget (fgt m hO)) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (((dats m hO 0 c).toRForget_arrAt_iff (fgt := fgt m hO) (w := 2) rfl _ _).mp ((h c).1 2)).trans (((dats m hO 0 c).arrAt_in 2 rfl _).trans ((A_eq m hO c 2).trans (V_main_arg2 m c))),
      (((dats m hO 0 c).toRForget_arrAt_iff (fgt := fgt m hO) (w := 3) rfl _ _).mp ((h c).1 3)).trans (((dats m hO 0 c).arrAt_in 3 rfl _).trans ((A_eq m hO c 3).trans (V_main_arg3 m c))),
      (((dats m hO 0 c).toRForget_arrAt_iff (fgt := fgt m hO) (w := 4) rfl _ _).mp ((h c).1 4)).trans (((dats m hO 0 c).arrAt_in 4 rfl _).trans ((A_eq m hO c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hO)

/-- THE FRAME: every execution ends, the arguments end unchanged, and every counter ends at zero (`Cert.quiescent_KernelIdeal` at any `F`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.KernelIdeal.State.lean ====
/- What one trip of the tile loop stores, and what the scratch buffers hold before every trip, as functions of the
   contents of the input windows alone. -/
module

public import proofs.«01_k».proof.Proof.KernelIdeal.Words
public import proofs.«01_k».proof.Proof.KernelIdeal.Run
public import Idealize.ShloMosaic.Lib.Pipeline.ValueKit
public import Idealize.ShloMosaic.Lib.Pipeline.ReadBack
public import Idealize.ShloMosaic.Lib.VecWindow

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- Whether trip `k` is the last one of a row of `v5` tiles, as the kernel's word. -/
def lastW (v5 : BitVec 32) (k : ℕ) : BitVec 1 := Scalar.cmpi .eq (Scf.iv 0#32 1#32 k) (Scalar.subi v5 1#32)

section tile
variable (v1 : Elt F .i32) (k : Fin (k0_t1_loop v1).trips)

/-- The block of scales that trip `k` loads. -/
def scT (x5 : Vec F S1x4x2048 .f32) : Vec F S1x4x256 .f32 :=
  View.ld (Val := Elt F) (e' := .f32) x5 (Rect.unit (k0_off2 v1 k) S1x4x256.size ((chk1_all v1).2.2.1 k))

/-- The block of codes that trip `k` loads. -/
def cdT (x4 : Vec F S1x2048x512 .fp8e4m3) : Vec F S1x256x512 .fp8e4m3 :=
  View.ld (Val := Elt F) (e' := .fp8e4m3) x4 (Rect.unit (k0_off3 v1 k) S1x256x512.size ((chk1_all v1).2.2.2.1 k))

/-- The block of rope keys that trip `k` loads. -/
def krT (x6 : Vec F S1x64x2048 .bf16) : Vec F S1x64x256 .bf16 :=
  View.ld (Val := Elt F) (e' := .bf16) x6 (Rect.unit (k0_off4 v1 k) S1x64x256.size ((chk1_all v1).2.2.2.2.1 k))

/-- The four stores of a tile of latent keys, before the new tokens are put in. -/
def kPs (x4 : Vec F S1x2048x512 .fp8e4m3) (x5 : Vec F S1x4x2048 .f32) : List (View.Piece (Elt F) S256x512 .bf16) :=
  [⟨Rect.unit ![0, 384] S256x128.size inb_S256x512_S256x128_0_384, k0_pay12 (k0_pay5 (scT v1 k x5)) (k0_pay6 (scT v1 k x5)) (k0_pay7 (cdT v1 k x4))⟩,
    ⟨Rect.unit ![0, 256] S256x128.size inb_S256x512_S256x128_0_256, k0_pay11 (k0_pay5 (scT v1 k x5)) (k0_pay6 (scT v1 k x5)) (k0_pay7 (cdT v1 k x4))⟩,
    ⟨Rect.unit ![0, 128] S256x128.size inb_S256x512_S256x128_0_128, k0_pay10 (k0_pay9 (scT v1 k x5) (cdT v1 k x4))⟩,
    ⟨Rect.unit ![0, 0] S256x128.size inb_S256x512_S256x128_0_0, k0_pay8 (scT v1 k x5) (cdT v1 k x4)⟩]

/-- A tile's latent keys. -/
def kT (x2 : Vec F S1x4x512 .bf16) (x4 : Vec F S1x2048x512 .fp8e4m3) (x5 : Vec F S1x4x2048 .f32) : Vec F S256x512 .bf16 :=
  View.canon (Val := Elt F) (⟨Rect.unit ![240, 0] S16x512.size inb_S256x512_S16x512_240_0,
    k0_pay14 (k0_pay13 (k0_pay58 x2) (k0_pay59 x2) (lastW (tilesW v1) k)
      (View.ld (View.canon (kPs v1 k x4 x5)) (Rect.unit ![240, 0] S16x512.size inb_S256x512_S16x512_240_0)))⟩ :: kPs v1 k x4 x5)

/-- The store of a tile's cached rope keys. -/
def bPs (x6 : Vec F S1x64x2048 .bf16) : List (View.Piece (Elt F) S128x256 .bf16) :=
  [⟨Rect.unit ![0, 0] S64x256.size inb_S128x256_S64x256_0_0, k0_pay15 (krT v1 k x6)⟩]

/-- A tile's rope keys over its mask. -/
def bT (x3 : Vec F S1x4x64 .bf16) (x6 : Vec F S1x64x2048 .bf16) : Vec F S128x256 .bf16 :=
  View.canon (Val := Elt F) (⟨Rect.unit ![64, 0] S64x256.size inb_S128x256_S64x256_64_0,
      k0_pay19 (k0_pay17 v1 (Scf.iv 0#32 1#32 k) (lastW (tilesW v1) k)) (Named.named κ "minus_inf" 0xFF61B1E6#32) k0_pay18⟩ ::
    ⟨Rect.unit ![0, 128] S64x128.size inb_S128x256_S64x128_0_128,
      k0_pay16 (k0_pay56 (k0_pay54 x3) k0_pay55) (lastW (tilesW v1) k)
        (View.ld (View.canon (bPs v1 k x6)) (Rect.unit ![0, 128] S64x128.size inb_S128x256_S64x128_0_128))⟩ :: bPs v1 k x6)

end tile

/-- The slice of the rope queries of sequence position `s`, as loaded. -/
def qS0 (x1 : Vec F S1x4x64x128 .bf16) : Vec F S1x1x64x128 .bf16 := View.ld (Val := Elt F) (e' := .bf16) x1 (Rect.unit ![0, 0, 0, 0] S1x1x64x128.size inb_S1x4x64x128_S1x1x64x128_0_0_0_0)
def qS1 (x1 : Vec F S1x4x64x128 .bf16) : Vec F S1x1x64x128 .bf16 := View.ld (Val := Elt F) (e' := .bf16) x1 (Rect.unit ![0, 1, 0, 0] S1x1x64x128.size inb_S1x4x64x128_S1x1x64x128_0_1_0_0)
def qS2 (x1 : Vec F S1x4x64x128 .bf16) : Vec F S1x1x64x128 .bf16 := View.ld (Val := Elt F) (e' := .bf16) x1 (Rect.unit ![0, 2, 0, 0] S1x1x64x128.size inb_S1x4x64x128_S1x1x64x128_0_2_0_0)
def qS3 (x1 : Vec F S1x4x64x128 .bf16) : Vec F S1x1x64x128 .bf16 := View.ld (Val := Elt F) (e' := .bf16) x1 (Rect.unit ![0, 3, 0, 0] S1x1x64x128.size inb_S1x4x64x128_S1x1x64x128_0_3_0_0)

/-- The column index, as a word, of a block of rope queries. -/
def laneW : IVec S128x128 32 := iota .tc S128x128 32 [1] iota_S128x128_d1_w32

/-- The four stores of the rope queries. -/
def qPs (x1 : Vec F S1x4x64x128 .bf16) : List (View.Piece (Elt F) S512x128 .bf16) :=
  [⟨Rect.unit ![384, 0] S128x128.size inb_S512x128_S128x128_384_0, k0_pay53 laneW (qS3 x1)⟩,
    ⟨Rect.unit ![256, 0] S128x128.size inb_S512x128_S128x128_256_0, k0_pay52 laneW (qS2 x1)⟩,
    ⟨Rect.unit ![128, 0] S128x128.size inb_S512x128_S128x128_128_0, k0_pay51 (qS1 x1)⟩,
    ⟨Rect.unit ![0, 0] S128x128.size inb_S512x128_S128x128_0_0, k0_pay50 (qS0 x1)⟩]

/-- The rope queries, with the mask's selector behind them. -/
def qT (x1 : Vec F S1x4x64x128 .bf16) : Vec F S512x128 .bf16 := View.canon (Val := Elt F) (qPs x1)

section state
variable (v1 : Elt F .i32) (x0 : Vec F S1x512x512 .bf16) (x1 : Vec F S1x4x64x128 .bf16) (x2 : Vec F S1x4x512 .bf16)
  (x3 : Vec F S1x4x64 .bf16) (x4 : Vec F S1x2048x512 .fp8e4m3) (x5 : Vec F S1x4x2048 .f32) (x6 : Vec F S1x64x2048 .bf16)

/-- The running maximum before trip `n`. -/
def stM : ℕ → Vec F S512x128 .f32
  | 0 => k0_pay60
  | n + 1 => if h : n < (k0_t1_loop v1).trips then
      k0_pay24 (kT v1 ⟨n, h⟩ x2 x4 x5) x0 (qT x1) (bT v1 ⟨n, h⟩ x3 x6) (stM n) else stM n

/-- The running denominator before trip `n`. -/
def stL : ℕ → Vec F S512x128 .f32
  | 0 => k0_pay61
  | n + 1 => if h : n < (k0_t1_loop v1).trips then
      k0_pay63 (k0_pay25 (kT v1 ⟨n, h⟩ x2 x4 x5) x0 (qT x1) (bT v1 ⟨n, h⟩ x3 x6) (stM v1 x0 x1 x2 x3 x4 x5 x6 n) (stL n)) else stL n

/-- The running numerators before trip `n`. -/
def stA : ℕ → Vec F S512x512 .f32
  | 0 => k0_pay62
  | n + 1 => if h : n < (k0_t1_loop v1).trips then
      k0_pay64 (kT v1 ⟨n, h⟩ x2 x4 x5)
        (k0_pay22 (kT v1 ⟨n, h⟩ x2 x4 x5) x0 (qT x1) (bT v1 ⟨n, h⟩ x3 x6) (stM v1 x0 x1 x2 x3 x4 x5 x6 n))
        (k0_pay23 (kT v1 ⟨n, h⟩ x2 x4 x5) x0 (qT x1) (bT v1 ⟨n, h⟩ x3 x6) (stM v1 x0 x1 x2 x3 x4 x5 x6 n)) (stA n) else stA n

end state

end Cert.KernelIdeal.Mla

end
-- ==== Proof.KernelIdeal.Loop.lean ====
/- The tile loop of the body, as run: its scratch buffers before each trip are `stM`, `stL` and `stA`. -/
module

public import proofs.«01_k».proof.Proof.KernelIdeal.State

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen

variable {F : FTy → Type} [FloatOps F] [Named F]

variable (𝒱 : Variants) (c : Dev nD) (bd : Option 𝒱.V) (i : grid0.Coords) (arg1 : Memref sig .tc .smem S64 .i32) (harg1 : arg1.IsWhole) (arg2 : Memref sig .tc .vmem S1x512x512 .bf16) (harg2 : arg2.IsWhole) (arg3 : Memref sig .tc .vmem S1x4x64x128 .bf16) (harg3 : arg3.IsWhole) (arg4 : Memref sig .tc .vmem S1x4x512 .bf16) (harg4 : arg4.IsWhole) (arg5 : Memref sig .tc .vmem S1x4x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x512x512 .bf16) (harg9 : arg9.IsWhole) (arg10 : Memref sig .tc .vmem S512x128 .bf16) (harg10 : arg10.IsWhole) (arg11 : Memref sig .tc .vmem S256x512 .bf16) (harg11 : arg11.IsWhole) (arg12 : Memref sig .tc .vmem S128x256 .bf16) (harg12 : arg12.IsWhole) (arg13 : Memref sig .tc .vmem S512x512 .f32) (harg13 : arg13.IsWhole) (arg14 : Memref sig .tc .vmem S512x128 .f32) (harg14 : arg14.IsWhole) (arg15 : Memref sig .tc .vmem S512x128 .f32) (harg15 : arg15.IsWhole)
  (v1 : Elt F .i32) (h1 : k0_chk1 v1) (x0 : Vec F S1x512x512 .bf16) (x1 : Vec F S1x4x64x128 .bf16) (x2 : Vec F S1x4x512 .bf16)
  (x3 : Vec F S1x4x64 .bf16) (x4 : Vec F S1x2048x512 .fp8e4m3) (x5 : Vec F S1x4x2048 .f32) (x6 : Vec F S1x64x2048 .bf16)

theorem trip_kT (k : Fin (k0_t1_loop v1).trips) :
    trip_k0_t1.sl.v230 arg6 arg7 arg11 v1 h1 (tilesW v1) x2 (harg6.unread x4) (harg7.unread x5) k = kT v1 k x2 x4 x5 := by
  have e4 : trip_k0_t1.sl.HW_arg11_4 arg6 arg7 v1 h1 (harg6.unread x4) (harg7.unread x5) k = kPs v1 k x4 x5 := by
    have e (f6) (f7) : trip_k0_t1.sl.HW_arg11_4 (F := F) arg6 arg7 v1 h1 f6 f7 k
        = kPs v1 k (arg6.view.read (Elt F) f6) (arg7.view.read (Elt F) f7) := rfl
    rw [e, harg6.read_unread, harg7.read_unread]
  have e5 : trip_k0_t1.sl.HW_arg11_5 arg6 arg7 arg11 v1 h1 (tilesW v1) x2 (harg6.unread x4) (harg7.unread x5) k
      = ⟨Rect.unit ![240, 0] S16x512.size inb_S256x512_S16x512_240_0,
    k0_pay14 (k0_pay13 (k0_pay58 x2) (k0_pay59 x2) (lastW (tilesW v1) k)
      (View.ld (View.canon (kPs v1 k x4 x5)) (Rect.unit ![240, 0] S16x512.size inb_S256x512_S16x512_240_0)))⟩ :: kPs v1 k x4 x5 := by
    have e6 : trip_k0_t1.sl.v165 arg6 arg7 arg11 v1 h1 (harg6.unread x4) (harg7.unread x5) k
        = View.ld (View.canon (kPs v1 k x4 x5)) (Rect.unit ![240, 0] S16x512.size inb_S256x512_S16x512_240_0) := by
      unfold trip_k0_t1.sl.v165
      rw [e4, View.readCov_eq_canon']
    rw [← e6, ← e4]
    rfl
  unfold trip_k0_t1.sl.v230 kT
  rw [View.readCov_eq_canon', e5]
  exact View.ld_unit_lit _ _ (by decide)

theorem trip_bT (k : Fin (k0_t1_loop v1).trips) :
    trip_k0_t1.sl.v235 arg8 arg12 v1 h1 (tilesW v1) (k0_pay54 x3) k0_pay55 (harg8.unread x6) k = bT v1 k x3 x6 := by
  have e4 : trip_k0_t1.sl.HW_arg12_1 arg8 v1 h1 (harg8.unread x6) k = bPs v1 k x6 := by
    have e (f8) : trip_k0_t1.sl.HW_arg12_1 (F := F) arg8 v1 h1 f8 k
        = bPs v1 k (arg8.view.read (Elt F) f8) := rfl
    rw [e, harg8.read_unread]
  have e6 : trip_k0_t1.sl.v192 arg8 arg12 v1 h1 (harg8.unread x6) k
      = View.ld (View.canon (bPs v1 k x6)) (Rect.unit ![0, 128] S64x128.size inb_S128x256_S64x128_0_128) := by
    unfold trip_k0_t1.sl.v192
    rw [e4, View.readCov_eq_canon']
  have e5 : trip_k0_t1.sl.HW_arg12_3 arg8 arg12 v1 h1 (tilesW v1) (k0_pay54 x3) k0_pay55 (harg8.unread x6) k
      = ⟨Rect.unit ![64, 0] S64x256.size inb_S128x256_S64x256_64_0,
      k0_pay19 (k0_pay17 v1 (Scf.iv 0#32 1#32 k) (lastW (tilesW v1) k)) (Named.named κ "minus_inf" 0xFF61B1E6#32) k0_pay18⟩ ::
    ⟨Rect.unit ![0, 128] S64x128.size inb_S128x256_S64x128_0_128,
      k0_pay16 (k0_pay56 (k0_pay54 x3) k0_pay55) (lastW (tilesW v1) k)
        (View.ld (View.canon (bPs v1 k x6)) (Rect.unit ![0, 128] S64x128.size inb_S128x256_S64x128_0_128))⟩ :: bPs v1 k x6 := by
    rw [← e6, ← e4]
    rfl
  unfold trip_k0_t1.sl.v235 bT
  rw [View.readCov_eq_canon', e5]
  exact View.ld_unit_lit _ _ (by decide)

theorem trip_A (k : Fin (k0_t1_loop v1).trips) (G10) (G11) (G12) (G13) (G14) (G15)
    (h10 : arg10.view.read (Elt F) G10 = qT x1) (acc : BitVec 32) :
    (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 k).2.2.2.1 acc G11 G12 G13 G14 G15
      = [⟨Rect.unit ![0, 0] S512x512.size inb_S512x512_S512x512_0_0, k0_pay64 (kT v1 k x2 x4 x5) (k0_pay22 (kT v1 k x2 x4 x5) x0 (qT x1) (bT v1 k x3 x6) (arg14.view.read (Elt F) G14)) (k0_pay23 (kT v1 k x2 x4 x5) x0 (qT x1) (bT v1 k x3 x6) (arg14.view.read (Elt F) G14)) (arg13.view.read (Elt F) G13)⟩] := by
  have e : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 k).2.2.2.1 acc G11 G12 G13 G14 G15
      = [⟨Rect.unit ![0, 0] S512x512.size inb_S512x512_S512x512_0_0, k0_pay64 (trip_k0_t1.sl.v230 arg6 arg7 arg11 v1 h1 (tilesW v1) x2 (harg6.unread x4) (harg7.unread x5) k) (k0_pay22 (trip_k0_t1.sl.v230 arg6 arg7 arg11 v1 h1 (tilesW v1) x2 (harg6.unread x4) (harg7.unread x5) k) (View.ld (arg2.view.read (Elt F) (harg2.unread x0)) (Rect.unit ![0, 0, 0] S1x512x512.size inb_S1x512x512_S1x512x512_0_0_0)) (View.ld (arg10.view.read (Elt F) G10) (Rect.unit ![0, 0] S512x128.size inb_S512x128_S512x128_0_0)) (trip_k0_t1.sl.v235 arg8 arg12 v1 h1 (tilesW v1) (k0_pay54 x3) k0_pay55 (harg8.unread x6) k) (View.ld (arg14.view.read (Elt F) G14) (Rect.unit ![0, 0] S512x128.size inb_S512x128_S512x128_0_0))) (k0_pay23 (trip_k0_t1.sl.v230 arg6 arg7 arg11 v1 h1 (tilesW v1) x2 (harg6.unread x4) (harg7.unread x5) k) (View.ld (arg2.view.read (Elt F) (harg2.unread x0)) (Rect.unit ![0, 0, 0] S1x512x512.size inb_S1x512x512_S1x512x512_0_0_0)) (View.ld (arg10.view.read (Elt F) G10) (Rect.unit ![0, 0] S512x128.size inb_S512x128_S512x128_0_0)) (trip_k0_t1.sl.v235 arg8 arg12 v1 h1 (tilesW v1) (k0_pay54 x3) k0_pay55 (harg8.unread x6) k) (View.ld (arg14.view.read (Elt F) G14) (Rect.unit ![0, 0] S512x128.size inb_S512x128_S512x128_0_0))) (View.ld (arg13.view.read (Elt F) G13) (Rect.unit ![0, 0] S512x512.size inb_S512x512_S512x512_0_0))⟩] := by
    unfold trip_k0_t1
    rfl
  rw [e, trip_kT, trip_bT, h10, harg2.read_unread, View.ld_unit_lit, View.ld_unit_lit, View.ld_unit_lit, View.ld_unit_lit]
  all_goals decide

theorem trip_M (k : Fin (k0_t1_loop v1).trips) (G10) (G11) (G12) (G13) (G14) (G15)
    (h10 : arg10.view.read (Elt F) G10 = qT x1) (acc : BitVec 32) :
    (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 k).2.2.2.2.1 acc G11 G12 G13 G14 G15
      = [⟨Rect.unit ![0, 0] S512x128.size inb_S512x128_S512x128_0_0, k0_pay24 (kT v1 k x2 x4 x5) x0 (qT x1) (bT v1 k x3 x6) (arg14.view.read (Elt F) G14)⟩] := by
  have e : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 k).2.2.2.2.1 acc G11 G12 G13 G14 G15
      = [⟨Rect.unit ![0, 0] S512x128.size inb_S512x128_S512x128_0_0, k0_pay24 (trip_k0_t1.sl.v230 arg6 arg7 arg11 v1 h1 (tilesW v1) x2 (harg6.unread x4) (harg7.unread x5) k) (View.ld (arg2.view.read (Elt F) (harg2.unread x0)) (Rect.unit ![0, 0, 0] S1x512x512.size inb_S1x512x512_S1x512x512_0_0_0)) (View.ld (arg10.view.read (Elt F) G10) (Rect.unit ![0, 0] S512x128.size inb_S512x128_S512x128_0_0)) (trip_k0_t1.sl.v235 arg8 arg12 v1 h1 (tilesW v1) (k0_pay54 x3) k0_pay55 (harg8.unread x6) k) (View.ld (arg14.view.read (Elt F) G14) (Rect.unit ![0, 0] S512x128.size inb_S512x128_S512x128_0_0))⟩] := by
    unfold trip_k0_t1
    rfl
  rw [e, trip_kT, trip_bT, h10, harg2.read_unread, View.ld_unit_lit, View.ld_unit_lit, View.ld_unit_lit]
  all_goals decide

theorem trip_L (k : Fin (k0_t1_loop v1).trips) (G10) (G11) (G12) (G13) (G14) (G15)
    (h10 : arg10.view.read (Elt F) G10 = qT x1) (acc : BitVec 32) :
    (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 k).2.2.2.2.2.1 acc G11 G12 G13 G14 G15
      = [⟨Rect.unit ![0, 0] S512x128.size inb_S512x128_S512x128_0_0, k0_pay63 (k0_pay25 (kT v1 k x2 x4 x5) x0 (qT x1) (bT v1 k x3 x6) (arg14.view.read (Elt F) G14) (arg15.view.read (Elt F) G15))⟩] := by
  have e : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 k).2.2.2.2.2.1 acc G11 G12 G13 G14 G15
      = [⟨Rect.unit ![0, 0] S512x128.size inb_S512x128_S512x128_0_0, k0_pay63 (k0_pay25 (trip_k0_t1.sl.v230 arg6 arg7 arg11 v1 h1 (tilesW v1) x2 (harg6.unread x4) (harg7.unread x5) k) (View.ld (arg2.view.read (Elt F) (harg2.unread x0)) (Rect.unit ![0, 0, 0] S1x512x512.size inb_S1x512x512_S1x512x512_0_0_0)) (View.ld (arg10.view.read (Elt F) G10) (Rect.unit ![0, 0] S512x128.size inb_S512x128_S512x128_0_0)) (trip_k0_t1.sl.v235 arg8 arg12 v1 h1 (tilesW v1) (k0_pay54 x3) k0_pay55 (harg8.unread x6) k) (View.ld (arg14.view.read (Elt F) G14) (Rect.unit ![0, 0] S512x128.size inb_S512x128_S512x128_0_0)) (View.ld (arg15.view.read (Elt F) G15) (Rect.unit ![0, 0] S512x128.size inb_S512x128_S512x128_0_0)))⟩] := by
    unfold trip_k0_t1
    rfl
  rw [e, trip_kT, trip_bT, h10, harg2.read_unread, View.ld_unit_lit, View.ld_unit_lit, View.ld_unit_lit, View.ld_unit_lit]
  all_goals decide

/-- What the running maximum, denominator and numerators hold before trip `n`. -/
theorem loop_state (G10) (G11) (G12) (G13) (G14) (G15) (h10 : arg10.view.read (Elt F) G10 = qT x1)
    (h13 : arg13.view.read (Elt F) G13 = k0_pay62) (h14 : arg14.view.read (Elt F) G14 = k0_pay60) (h15 : arg15.view.read (Elt F) G15 = k0_pay61)
    (init : BitVec 32) (n : ℕ) (hn : n ≤ (k0_t1_loop v1).trips) :
    arg13.view.read (Elt F) (arg13.view.writes (Elt F) G13 (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 G11 G12 G13 G14 G15 init n).2.2.2.1) = stA v1 x0 x1 x2 x3 x4 x5 x6 n ∧
    arg14.view.read (Elt F) (arg14.view.writes (Elt F) G14 (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 G11 G12 G13 G14 G15 init n).2.2.2.2.1) = stM v1 x0 x1 x2 x3 x4 x5 x6 n ∧
    arg15.view.read (Elt F) (arg15.view.writes (Elt F) G15 (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v1 h1 (tilesW v1) (k0_pay54 x3) k0_pay55 x2 (harg2.unread x0) (harg6.unread x4) (harg7.unread x5) (harg8.unread x6) G10 G11 G12 G13 G14 G15 init n).2.2.2.2.2) = stL v1 x0 x1 x2 x3 x4 x5 x6 n := by
  induction n with
  | zero => exact ⟨h13, h14, h15⟩
  | succ n ih =>
    obtain ⟨iA, iM, iL⟩ := ih (Nat.le_of_succ_le hn)
    have hk : n < (k0_t1_loop v1).trips := hn
    rw [show n + 1 = (⟨n, hk⟩ : Fin (k0_t1_loop v1).trips).val + 1 from rfl, st_k0_t1_succ]
    refine ⟨?_, ?_, ?_⟩
    · dsimp only [tripL_k0_t1]
      rw [trip_A (h10 := h10)]
      dsimp only
      rw [iA, iM, stA, dif_pos hk]
      exact View.read_writes_full ..
    · dsimp only [tripL_k0_t1]
      rw [trip_M (h10 := h10)]
      dsimp only
      rw [iM, stM, dif_pos hk]
      exact View.read_writes_full ..
    · dsimp only [tripL_k0_t1]
      rw [trip_L (h10 := h10)]
      dsimp only
      rw [iL, iM, stL, dif_pos hk]
      exact View.read_writes_full ..

end Cert.KernelIdeal.Mla

end
-- ==== Proof.KernelIdeal.Out.lean ====
/- What the body leaves in its window: the numerators over the denominators after the last trip. -/
module

public import proofs.«01_k».proof.Proof.KernelIdeal.Loop

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- The block that the body leaves, at a row length `v1`. -/
def outB (v1 : Elt F .i32) (x0 : Vec F S1x512x512 .bf16) (x1 : Vec F S1x4x64x128 .bf16) (x2 : Vec F S1x4x512 .bf16)
    (x3 : Vec F S1x4x64 .bf16) (x4 : Vec F S1x2048x512 .fp8e4m3) (x5 : Vec F S1x4x2048 .f32) (x6 : Vec F S1x64x2048 .bf16) : Vec F S1x512x512 .bf16 :=
  k0_pay1 (k0_pay67 (stA v1 x0 x1 x2 x3 x4 x5 x6 (k0_t1_loop v1).trips)
    (View.ld (stL v1 x0 x1 x2 x3 x4 x5 x6 (k0_t1_loop v1).trips) (Rect.unit ![0, 0] S512x1.size inb_S512x128_S512x1_0_0)))

/-- The length of the row that grid point `i` works on, as the body reads it. -/
def lenW (c : Dev nD) (i : grid0.Coords) (xt0 : TbBuf0 (F := F) c tbM0_0) : Elt F .i32 :=
  tbM0_0.view.readAt (Elt F) (Rect.unit (s := S64) (k0_off1 i) S1.size (k0_off1_inb i)).toLoadRect xt0 (Shape.Idx.first (numel1_S1.symm ▸ Nat.one_pos))

set_option maxHeartbeats 400000 in
theorem run_pieces (c : Dev nD) (i : grid0.Coords) (arg2 : Memref sig .tc .vmem S1x512x512 .bf16) (harg2 : arg2.IsWhole) (arg3 : Memref sig .tc .vmem S1x4x64x128 .bf16) (harg3 : arg3.IsWhole) (arg4 : Memref sig .tc .vmem S1x4x512 .bf16) (harg4 : arg4.IsWhole) (arg5 : Memref sig .tc .vmem S1x4x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x512x512 .bf16) (harg9 : arg9.IsWhole) (arg10 : Memref sig .tc .vmem S512x128 .bf16) (harg10 : arg10.IsWhole) (arg11 : Memref sig .tc .vmem S256x512 .bf16) (harg11 : arg11.IsWhole) (arg12 : Memref sig .tc .vmem S128x256 .bf16) (harg12 : arg12.IsWhole) (arg13 : Memref sig .tc .vmem S512x512 .f32) (harg13 : arg13.IsWhole) (arg14 : Memref sig .tc .vmem S512x128 .f32) (harg14 : arg14.IsWhole) (arg15 : Memref sig .tc .vmem S512x128 .f32) (harg15 : arg15.IsWhole)
    (x0 : Vec F S1x512x512 .bf16) (x1 : Vec F S1x4x64x128 .bf16) (x2 : Vec F S1x4x512 .bf16) (x3 : Vec F S1x4x64 .bf16) (x4 : Vec F S1x2048x512 .fp8e4m3) (x5 : Vec F S1x4x2048 .f32) (x6 : Vec F S1x64x2048 .bf16) (y0 : Vec F S512x128 .bf16) (y1 : Vec F S256x512 .bf16) (y2 : Vec F S128x256 .bf16) (y3 : Vec F S512x512 .f32) (y4 : Vec F S512x128 .f32) (y5 : Vec F S512x128 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y0 y1 y2 y3 y4 y5 xt0 k0_hw1).1
      = [⟨Rect.unit ![0, 0, 0] S1x512x512.size inb_S1x512x512_S1x512x512_0_0_0, outB (lenW c i xt0) x0 x1 x2 x3 x4 x5 x6⟩] := by
  unfold kernelRun
  dsimp only
  unfold kernelRun.sl.r_3 kernelRun.sl.v94 kernelRun.sl.v95 outB
  have ht2 : Scf.trips (k0_t2_loop (kernelRun.sl.r c i xt0)).lb (k0_t2_loop (kernelRun.sl.r c i xt0)).ub (k0_t2_loop (kernelRun.sl.r c i xt0)).st = 0 := t2_trips _
  rw [ht2]
  simp only [st_k0_t2.eq_1, List.nil_append]
  have h10 : arg10.view.read (Elt F) (arg10.view.writes (Elt F) arg10.view.junk (kernelRun.sl.HS0_4 c arg3 harg3 x1)) = qT x1 := by
    rw [View.read_writes_junk_eq_canon]
    have e (f3) : (⟨Rect.unit ![384, 0] S128x128.size inb_S512x128_S128x128_384_0, k0_pay53 laneW (qS3 (arg3.view.read (Elt F) f3))⟩ ::
      ⟨Rect.unit ![256, 0] S128x128.size inb_S512x128_S128x128_256_0, k0_pay52 laneW (qS2 (arg3.view.read (Elt F) f3))⟩ ::
      ⟨Rect.unit ![128, 0] S128x128.size inb_S512x128_S128x128_128_0, k0_pay51 (qS1 (arg3.view.read (Elt F) f3))⟩ ::
      ⟨Rect.unit ![0, 0] S128x128.size inb_S512x128_S128x128_0_0, k0_pay50 (qS0 (arg3.view.read (Elt F) f3))⟩ :: []) = qPs (F := F) (arg3.view.read (Elt F) f3) := rfl
    have e' := e (harg3.unread x1)
    rw [harg3.read_unread] at e'
    unfold qT
    rw [← e']
    have e3 : arg3.view.read (Elt F) (harg3.unread x1) = x1 := harg3.read_unread x1
    have : kernelRun.sl.HS0_4 c arg3 harg3 x1 = qPs (F := F) (arg3.view.read (Elt F) (harg3.unread x1)) := rfl
    rw [this, e3, e']
  have hx2 : View.readAt (Elt F) arg4.view (Rect.unit ![0, 0, 0] S1x4x512.size inb_S1x4x512_S1x4x512_0_0_0).toLoadRect (harg4.unread x2) = x2 := by
    rw [View.readAt_eq_ld, harg4.read_unread]; exact View.ld_unit_lit _ _ (by decide)
  have hx3 : kernelRun.sl.r_2 c arg5 harg5 x3 = k0_pay54 x3 := by
    unfold kernelRun.sl.r_2
    rw [View.readAt_eq_ld, harg5.read_unread]; exact congrArg _ (View.ld_unit_lit _ _ (by decide))
  have hv5 : kernelRun.sl.v5 c i xt0 = tilesW (kernelRun.sl.r c i xt0) := rfl
  have hr : lenW c i xt0 = kernelRun.sl.r c i xt0 := rfl
  rw [hr, hx2, hx3, hv5, View.readCov_eq_canon', View.readCov_eq_canon']
  have hS := loop_state Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 (kernelRun.sl.r c i xt0) k0_hw1 x0 x1 x2 x3 x4 x5 x6
    (arg10.view.writes (Elt F) arg10.view.junk (kernelRun.sl.HS0_4 c arg3 harg3 x1)) (harg11.unread y1) (harg12.unread y2)
    (arg13.view.writes (Elt F) arg13.view.junk kernelRun.sl.HS3_1) (arg14.view.writes (Elt F) arg14.view.junk kernelRun.sl.HS4_1)
    (arg15.view.writes (Elt F) arg15.view.junk kernelRun.sl.HS5_1) h10 (View.read_writes_full ..) (View.read_writes_full ..) (View.read_writes_full ..)
    0#32 (Scf.trips (k0_t1_loop (kernelRun.sl.r c i xt0)).lb (k0_t1_loop (kernelRun.sl.r c i xt0)).ub (k0_t1_loop (kernelRun.sl.r c i xt0)).st) (le_refl _)
  rw [← View.writes_append, ← View.writes_append, ← View.writes_append, View.read_writes_junk_eq_canon, View.read_writes_junk_eq_canon,
    View.read_writes_junk_eq_canon] at hS
  obtain ⟨hA, -, hL⟩ := hS
  refine congrArg (fun w => [(⟨Rect.unit ![0, 0, 0] S1x512x512.size inb_S1x512x512_S1x512x512_0_0_0, k0_pay1 w⟩ : View.Piece (Elt F) S1x512x512 .bf16)]) ?_
  have hT : (k0_t1_loop (kernelRun.sl.r c i xt0)).trips = Scf.trips (k0_t1_loop (kernelRun.sl.r c i xt0)).lb (k0_t1_loop (kernelRun.sl.r c i xt0)).ub (k0_t1_loop (kernelRun.sl.r c i xt0)).st := rfl
  rw [hT]
  refine congrArg₂ k0_pay67 ?_ ?_
  · rw [hA]
    exact View.ld_unit_lit (Val := Elt F) (e := .f32) inb_S512x512_S512x512_0_0 _ (by decide)
  · rw [hL]

/-- The same, read back from the window. -/
theorem read_run (c : Dev nD) (i : grid0.Coords) (arg2 : Memref sig .tc .vmem S1x512x512 .bf16) (harg2 : arg2.IsWhole) (arg3 : Memref sig .tc .vmem S1x4x64x128 .bf16) (harg3 : arg3.IsWhole) (arg4 : Memref sig .tc .vmem S1x4x512 .bf16) (harg4 : arg4.IsWhole) (arg5 : Memref sig .tc .vmem S1x4x64 .bf16) (harg5 : arg5.IsWhole) (arg6 : Memref sig .tc .vmem S1x2048x512 .fp8e4m3) (harg6 : arg6.IsWhole) (arg7 : Memref sig .tc .vmem S1x4x2048 .f32) (harg7 : arg7.IsWhole) (arg8 : Memref sig .tc .vmem S1x64x2048 .bf16) (harg8 : arg8.IsWhole) (arg9 : Memref sig .tc .vmem S1x512x512 .bf16) (harg9 : arg9.IsWhole) (arg10 : Memref sig .tc .vmem S512x128 .bf16) (harg10 : arg10.IsWhole) (arg11 : Memref sig .tc .vmem S256x512 .bf16) (harg11 : arg11.IsWhole) (arg12 : Memref sig .tc .vmem S128x256 .bf16) (harg12 : arg12.IsWhole) (arg13 : Memref sig .tc .vmem S512x512 .f32) (harg13 : arg13.IsWhole) (arg14 : Memref sig .tc .vmem S512x128 .f32) (harg14 : arg14.IsWhole) (arg15 : Memref sig .tc .vmem S512x128 .f32) (harg15 : arg15.IsWhole)
    (x0 : Vec F S1x512x512 .bf16) (x1 : Vec F S1x4x64x128 .bf16) (x2 : Vec F S1x4x512 .bf16) (x3 : Vec F S1x4x64 .bf16) (x4 : Vec F S1x2048x512 .fp8e4m3) (x5 : Vec F S1x4x2048 .f32) (x6 : Vec F S1x64x2048 .bf16) (y0 : Vec F S512x128 .bf16) (y1 : Vec F S256x512 .bf16) (y2 : Vec F S128x256 .bf16) (y3 : Vec F S512x512 .f32) (y4 : Vec F S512x128 .f32) (y5 : Vec F S512x128 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) (f : _) :
    arg9.view.read (Elt F) (arg9.view.writes (Elt F) f (kernelRun c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y0 y1 y2 y3 y4 y5 xt0 k0_hw1).1)
      = outB (lenW c i xt0) x0 x1 x2 x3 x4 x5 x6 := by
  rw [run_pieces]
  exact View.read_writes_full ..

end Cert.KernelIdeal.Mla

end
-- ==== Proof.KernelIdeal.Exact.lean ====
/- The value of `KernelIdeal`: the proof data of its pipeline with what the body leaves in every window, the body obligation, the launch. -/
module

public import proofs.«01_k».proof.Proof.Gen.KernelIdeal.Launch
public import proofs.«01_k».proof.Proof.KernelIdeal.Kit
public import proofs.«01_k».proof.Proof.KernelIdeal.Words
public import proofs.«01_k».proof.Proof.KernelIdeal.Out
public import proofs.«01_k».proof.Proof.KernelIdeal.Frame
public import Idealize.ShloMosaic.Lib.Claim

@[expose] public section

set_option maxRecDepth 16384

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the body leaves in the output window at point `t`. -/
def outAt (hO : Ok m) (c : Dev nD) (t : Fin (cfgM m hO).N) : Vec F S1x512x512 .bf16 :=
  outB (lenW c (grid0.coords t) (tbl m 0)) (iblk m hO c 0 t) (iblk m hO c 1 t) (iblk m hO c 2 t) (iblk m hO c 3 t) (iblk m hO c 4 t) (iblk m hO c 5 t) (iblk m hO c 6 t)

/-- The proof data of the one pipeline on core `c`: the arrays as the region finds them (`V`); after the body at
    point `t` each input's buffer at its block and the output's at `outAt`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

theorem after0_7 (hO : Ok m) (c : Dev nD) (t : Fin (cfgM m hO).N) : (dats m hO 0 c).after 7 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨⟨%z0, HS0⟩, ⟨%z1, HS1⟩, ⟨%z2, HS2⟩, ⟨%z3, HS3⟩, ⟨%z4, HS4⟩, ⟨%z5, HS5⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) z0 z1 z2 z3 z4 z5 (tbl m 0) (chk1_all _)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, ⟨%e7, H7⟩, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact read_run ..

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The result array ends at what the library computes from the proof data, and the arguments end unchanged. -/
theorem result (hO : Ok m) : θ_run defs (onTc (τ := τ) (main (F := F))) ⟨m, fun _ => 0, ρ⟩ (fun r => ∀ c : Dev nD,
      r.2.mem ((c.tc : Thread nD τ).loc main_v4) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 7,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) (run_main m ρ hO)

end Cert.KernelIdeal.Mla

end
-- ==== Proof.KernelIdeal.Array.lean ====
/- The array that the kernel leaves: row block `b` is the block that the body leaves over batch `b` of the arguments. -/
module

public import proofs.«01_k».proof.Proof.KernelIdeal.Exact
public import Idealize.ShloMosaic.Lib.Pipeline.ValueKit

@[expose] public section

set_option maxRecDepth 16384

noncomputable section

namespace Cert.KernelIdeal.Mla

open Idealize.ShloMosaic Idealize.ShloMosaic.TcCoe Idealize.ShloMosaic.Tactic
open Idealize.SL Idealize.SL.Sem
open Idealize.ShloMosaic.Pipeline (Dat)
open Cert.KernelIdeal Cert.KernelIdeal.Gen

section windows
variable (a0 : Vec Ideal S64x4x128x512 .bf16) (a1 : Vec Ideal S64x4x128x64 .bf16) (a2 : Vec Ideal S64x4x512 .bf16) (a3 : Vec Ideal S64x4x64 .bf16)
  (a4 : Vec Ideal S64x2048x512 .fp8e4m3) (a5 : Vec Ideal S64x2048x4 .f32) (a6 : Vec Ideal S64x2048x64 .bf16) (a7 : Vec Ideal S64 .i32)

/-- The queries as the call takes them. -/
def hx : Vec Ideal S64x512x512 .bf16 := shapeCast S64x512x512 a0 shapeCasts_S64x4x128x512_S64x512x512
/-- The rope queries as the call takes them. -/
def hq : Vec Ideal S64x4x64x128 .bf16 := transpose S64x4x64x128 [0, 1, 3, 2] a1 transposes_S64x4x128x64_S64x4x64x128_0_1_3_2
/-- The scales as the call takes them. -/
def hs : Vec Ideal S64x4x2048 .f32 := transpose S64x4x2048 [0, 2, 1] a5 transposes_S64x2048x4_S64x4x2048_0_2_1
/-- The cached rope keys as the call takes them. -/
def hk : Vec Ideal S64x64x2048 .bf16 := transpose S64x64x2048 [0, 2, 1] a6 transposes_S64x2048x64_S64x64x2048_0_2_1

/-- Batch `b` of each operand, as a block. -/
def w0 (b : Fin 64) : Vec Ideal S1x512x512 .bf16 := fun y => hx a0 (ix3 b (y 1) (y 2))
def w1 (b : Fin 64) : Vec Ideal S1x4x64x128 .bf16 := fun y => hq a1 (ix4 b (y 1) (y 2) (y 3))
def w2 (b : Fin 64) : Vec Ideal S1x4x512 .bf16 := fun y => a2 (ix3 b (y 1) (y 2))
def w3 (b : Fin 64) : Vec Ideal S1x4x64 .bf16 := fun y => a3 (ix3 b (y 1) (y 2))
def w4 (b : Fin 64) : Vec Ideal S1x2048x512 .fp8e4m3 := fun y => a4 (ix3 b (y 1) (y 2))
def w5 (b : Fin 64) : Vec Ideal S1x4x2048 .f32 := fun y => hs a5 (ix3 b (y 1) (y 2))
def w6 (b : Fin 64) : Vec Ideal S1x64x2048 .bf16 := fun y => hk a6 (ix3 b (y 1) (y 2))

/-- The block that the body leaves over batch `b`. -/
def rowB (b : Fin 64) : Vec Ideal S1x512x512 .bf16 :=
  outB (F := Ideal) (a7 (ix1 b)) (w0 a0 b) (w1 a1 b) (w2 a2 b) (w3 a3 b) (w4 a4 b) (w5 a5 b) (w6 a6 b)

/-- The array that the kernel leaves. -/
def outArr : Vec Ideal S64x512x512 .bf16 := fun i => rowB a0 a1 a2 a3 a4 a5 a6 a7 (i 0) (ix3 0 (i 1) (i 2))

end windows

theorem N_eq : grid0.N = 64 := by decide +kernel
theorem coord_eq : ∀ t : Fin grid0.N, (grid0.coords t 0).val = t.val := by decide +kernel
theorem ix_0 : ∀ t : Fin grid0.N, cc0_transform_0 (grid0.coords t) = ![t.val, 0, 0] := by decide +kernel
theorem ix_1 : ∀ t : Fin grid0.N, cc0_transform_1 (grid0.coords t) = ![t.val, 0, 0, 0] := by decide +kernel
theorem ix_2 : ∀ t : Fin grid0.N, cc0_transform_2 (grid0.coords t) = ![t.val, 0, 0] := by decide +kernel
theorem ix_3 : ∀ t : Fin grid0.N, cc0_transform_3 (grid0.coords t) = ![t.val, 0, 0] := by decide +kernel
theorem ix_4 : ∀ t : Fin grid0.N, cc0_transform_4 (grid0.coords t) = ![t.val, 0, 0] := by decide +kernel
theorem ix_5 : ∀ t : Fin grid0.N, cc0_transform_5 (grid0.coords t) = ![t.val, 0, 0] := by decide +kernel
theorem ix_6 : ∀ t : Fin grid0.N, cc0_transform_6 (grid0.coords t) = ![t.val, 0, 0] := by decide +kernel
theorem ix_7 : ∀ t : Fin grid0.N, cc0_transform_7 (grid0.coords t) = ![t.val, 0, 0] := by decide +kernel
theorem off_1 : ∀ t : Fin grid0.N, k0_off1 (grid0.coords t) = ![t.val] := by decide +kernel

variable (m : (ℓ : Loc nD τ sig) → Buf (Elt Ideal) ℓ)

theorem V_v0 (c : Dev nD) : V m c main_v0 = hx (m ((c : Thread nD τ).loc main_arg0)) := by
  entry_read
  rfl
theorem V_v1 (c : Dev nD) : V m c main_v1 = hq (m ((c : Thread nD τ).loc main_arg1)) := by
  entry_read
  rfl
theorem V_v2 (c : Dev nD) : V m c main_v2 = hs (m ((c : Thread nD τ).loc main_arg5)) := by
  entry_read
  rfl
theorem V_v3 (c : Dev nD) : V m c main_v3 = hk (m ((c : Thread nD τ).loc main_arg6)) := by
  entry_read
  rfl

/-- The batch of a grid point. -/
def bat (hO : Ok m) (t : Fin (cfgM m hO).N) : Fin 64 := ⟨t.val, lt_of_lt_of_eq t.isLt N_eq⟩

theorem covers_7 (hO : Ok m) : ((cfgM m hO).win 7).Covers := by
  refine ⟨(by decide : ∀ a : Fin 3, 0 < (![1, 512, 512] : Fin 3 → ℕ) a), fun β => ?_⟩
  have h0 : (β (0 : Fin 3)).val < 64 := lt_of_lt_of_eq (β (0 : Fin 3)).isLt (show ((![64, 512, 512] : Fin 3 → ℕ) 0 + (![1, 512, 512] : Fin 3 → ℕ) 0 - 1) / (![1, 512, 512] : Fin 3 → ℕ) 0 = 64 from by decide)
  have h1 : (β (1 : Fin 3)).val < 1 := lt_of_lt_of_eq (β (1 : Fin 3)).isLt (show ((![64, 512, 512] : Fin 3 → ℕ) 1 + (![1, 512, 512] : Fin 3 → ℕ) 1 - 1) / (![1, 512, 512] : Fin 3 → ℕ) 1 = 1 from by decide)
  have h2 : (β (2 : Fin 3)).val < 1 := lt_of_lt_of_eq (β (2 : Fin 3)).isLt (show ((![64, 512, 512] : Fin 3 → ℕ) 2 + (![1, 512, 512] : Fin 3 → ℕ) 2 - 1) / (![1, 512, 512] : Fin 3 → ℕ) 2 = 1 from by decide)
  refine ⟨⟨(β (0 : Fin 3)).val, lt_of_lt_of_eq h0 N_eq.symm⟩, flush0_7 (adm m hO) _, fun a => ⟨?_, Or.inl rfl⟩⟩
  refine (congrFun (ix_7 ⟨(β (0 : Fin 3)).val, lt_of_lt_of_eq h0 N_eq.symm⟩) a).trans ?_
  match a with
  | (⟨0, _⟩ : Fin 3) => rfl
  | (⟨1, _⟩ : Fin 3) => exact (Nat.lt_one_iff.mp h1).symm
  | (⟨2, _⟩ : Fin 3) => exact (Nat.lt_one_iff.mp h2).symm

theorem iblk_0 (hO : Ok m) (c : Dev nD) (t : Fin (cfgM m hO).N) : iblk m hO c 0 t = w0 (m ((c : Thread nD τ).loc main_arg0)) (bat m hO t) := by
  funext y
  unfold w0
  rw [← V_v0 m c]
  blk_ext [iblk, V, bat]
  · exact congrFun (ix_0 t) 0
  · exact (congrArg (fun z => z * 512 + _) (congrFun (ix_0 t) 1)).trans ((congrArg (· + _) (Nat.zero_mul 512)).trans (Nat.zero_add _))
  · exact (congrArg (fun z => z * 512 + _) (congrFun (ix_0 t) 2)).trans ((congrArg (· + _) (Nat.zero_mul 512)).trans (Nat.zero_add _))

theorem iblk_1 (hO : Ok m) (c : Dev nD) (t : Fin (cfgM m hO).N) : iblk m hO c 1 t = w1 (m ((c : Thread nD τ).loc main_arg1)) (bat m hO t) := by
  funext y
  unfold w1
  rw [← V_v1 m c]
  blk_ext [iblk, V, bat]
  · exact congrFun (ix_1 t) 0
  · exact (congrArg (fun z => z * 4 + _) (congrFun (ix_1 t) 1)).trans ((congrArg (· + _) (Nat.zero_mul 4)).trans (Nat.zero_add _))
  · exact (congrArg (fun z => z * 64 + _) (congrFun (ix_1 t) 2)).trans ((congrArg (· + _) (Nat.zero_mul 64)).trans (Nat.zero_add _))
  · exact (congrArg (fun z => z * 128 + _) (congrFun (ix_1 t) 3)).trans ((congrArg (· + _) (Nat.zero_mul 128)).trans (Nat.zero_add _))

theorem iblk_2 (hO : Ok m) (c : Dev nD) (t : Fin (cfgM m hO).N) : iblk m hO c 2 t = w2 (m ((c : Thread nD τ).loc main_arg2)) (bat m hO t) := by
  funext y
  unfold w2
  rw [← V_main_arg2 m c]
  blk_ext [iblk, V, bat]
  · exact congrFun (ix_2 t) 0
  · exact (congrArg (fun z => z * 4 + _) (congrFun (ix_2 t) 1)).trans ((congrArg (· + _) (Nat.zero_mul 4)).trans (Nat.zero_add _))
  · exact (congrArg (fun z => z * 512 + _) (congrFun (ix_2 t) 2)).trans ((congrArg (· + _) (Nat.zero_mul 512)).trans (Nat.zero_add _))

theorem iblk_3 (hO : Ok m) (c : Dev nD) (t : Fin (cfgM m hO).N) : iblk m hO c 3 t = w3 (m ((c : Thread nD τ).loc main_arg3)) (bat m hO t) := by
  funext y
  unfold w3
  rw [← V_main_arg3 m c]
  blk_ext [iblk, V, bat]
  · exact congrFun (ix_3 t) 0
  · exact (congrArg (fun z => z * 4 + _) (congrFun (ix_3 t) 1)).trans ((congrArg (· + _) (Nat.zero_mul 4)).trans (Nat.zero_add _))
  · exact (congrArg (fun z => z * 64 + _) (congrFun (ix_3 t) 2)).trans ((congrArg (· + _) (Nat.zero_mul 64)).trans (Nat.zero_add _))

theorem iblk_4 (hO : Ok m) (c : Dev nD) (t : Fin (cfgM m hO).N) : iblk m hO c 4 t = w4 (m ((c : Thread nD τ).loc main_arg4)) (bat m hO t) := by
  funext y
  unfold w4
  rw [← V_main_arg4 m c]
  blk_ext [iblk, V, bat]
  · exact congrFun (ix_4 t) 0
  · exact (congrArg (fun z => z * 2048 + _) (congrFun (ix_4 t) 1)).trans ((congrArg (· + _) (Nat.zero_mul 2048)).trans (Nat.zero_add _))
  · exact (congrArg (fun z => z * 512 + _) (congrFun (ix_4 t) 2)).trans ((congrArg (· + _) (Nat.zero_mul 512)).trans (Nat.zero_add _))

theorem iblk_5 (hO : Ok m) (c : Dev nD) (t : Fin (cfgM m hO).N) : iblk m hO c 5 t = w5 (m ((c : Thread nD τ).loc main_arg5)) (bat m hO t) := by
  funext y
  unfold w5
  rw [← V_v2 m c]
  blk_ext [iblk, V, bat]
  · exact congrFun (ix_5 t) 0
  · exact (congrArg (fun z => z * 4 + _) (congrFun (ix_5 t) 1)).trans ((congrArg (· + _) (Nat.zero_mul 4)).trans (Nat.zero_add _))
  · exact (congrArg (fun z => z * 2048 + _) (congrFun (ix_5 t) 2)).trans ((congrArg (· + _) (Nat.zero_mul 2048)).trans (Nat.zero_add _))

theorem iblk_6 (hO : Ok m) (c : Dev nD) (t : Fin (cfgM m hO).N) : iblk m hO c 6 t = w6 (m ((c : Thread nD τ).loc main_arg6)) (bat m hO t) := by
  funext y
  unfold w6
  rw [← V_v3 m c]
  blk_ext [iblk, V, bat]
  · exact congrFun (ix_6 t) 0
  · exact (congrArg (fun z => z * 64 + _) (congrFun (ix_6 t) 1)).trans ((congrArg (· + _) (Nat.zero_mul 64)).trans (Nat.zero_add _))
  · exact (congrArg (fun z => z * 2048 + _) (congrFun (ix_6 t) 2)).trans ((congrArg (· + _) (Nat.zero_mul 2048)).trans (Nat.zero_add _))

theorem lenW_eq (hO : Ok m) (c : Dev nD) (t : Fin (cfgM m hO).N) :
    lenW (F := Ideal) c (grid0.coords t) (tbl m 0) = m ((c : Thread nD τ).loc main_arg7) (ix1 (bat m hO t)) := by
  obtain rfl : c = 0 := Subsingleton.elim _ _
  unfold lenW
  have e := off_1 t
  rw [show tbl m 0 = m (((0 : Dev nD) : Thread nD τ).loc main_arg7) from V_main_arg7 m 0]
  refine congrArg (m (((0 : Dev nD) : Thread nD τ).loc main_arg7)) (funext fun a => Fin.ext ?_)
  match a with
  | (⟨0, _⟩ : Fin 1) =>
    refine Eq.trans ?_ (congrFun e 0)
    show k0_off1 (grid0.coords t) 0 + 1 * 0 = k0_off1 (grid0.coords t) 0
    omega

theorem emb_7 (hO : Ok m) (t : Fin (cfgM m hO).N) (y : (((cfgM m hO).win 7).xblock ((cfgM m hO).grid.coords t)).Idx) :
    (((cfgM m hO).win 7).blk t).view.emb y = (ix3 (bat m hO t) ((show S1x512x512.Idx from y) 1) ((show S1x512x512.Idx from y) 2) : S64x512x512.Idx) := by
  blk_ext [bat]
  · exact congrFun (ix_7 t) 0
  · exact (congrArg (fun z => z * 512 + _) (congrFun (ix_7 t) 1)).trans ((congrArg (· + _) (Nat.zero_mul 512)).trans (Nat.zero_add _))
  · exact (congrArg (fun z => z * 512 + _) (congrFun (ix_7 t) 2)).trans ((congrArg (· + _) (Nat.zero_mul 512)).trans (Nat.zero_add _))

theorem arr_eq (hO : Ok m) (c : Dev nD) : (dats m hO 0 c).arrAt 7 (cfgM m hO).N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m hO 0 c).arrAt_eq_of_covers 7 _ (covers_7 m hO) fun t hf y => ?_
  rw [after0_7, outAt, lenW_eq m hO c t, iblk_0, iblk_1, iblk_2, iblk_3, iblk_4, iblk_5, iblk_6]
  rw [emb_7]
  blk_simp
  refine congrArg (outB (F := Ideal) _ _ _ _ _ _ _ _) (?_ : (show S1x512x512.Idx from y) = ix3 0 ((show S1x512x512.Idx from y) 1) ((show S1x512x512.Idx from y) 2))
  have h : (y (0 : Fin 3)) = (0 : Fin 1) := Subsingleton.elim (α := Fin 1) _ _
  funext a
  match a with
  | (⟨0, _⟩ : Fin 3) => exact h
  | (⟨1, _⟩ : Fin 3) => rfl
  | (⟨2, _⟩ : Fin 3) => rfl

end Cert.KernelIdeal.Mla

end
-- ==== Proof.RefDefs.lean ====
/- The stages of the reference, named. -/
module

public import proofs.«01_k».proof.Proof.Gen.ReferenceIdeal

@[expose] public section

set_option maxRecDepth 16384

noncomputable section

namespace Cert.ReferenceIdeal.Mla

open Idealize.ShloMosaic Idealize.ShloMosaic.TcCoe Idealize.ShloMosaic.Tactic
open Idealize.SL Idealize.SL.Sem
open Cert.ReferenceIdeal Cert.ReferenceIdeal.Gen

section defs
variable {F : FTy → Type} [FloatOps F]

/-- The scale of the scores, one over the root of 192. -/
def rScale : Vec F S_ .f32 := Host.divf (constant S_ .f32 0x3F800000#32) (Host.sqrt (constant S_ .f32 0x43400000#32))

/-- The cached latent keys: the codes, scaled by groups of 128. -/
def rLat (a4 : Vec F S64x2048x512 .bf16) (a5 : Vec F S64x2048x4 .f32) : Vec F S64x2048x512 .bf16 :=
  shapeCast S64x2048x512 (mulf (shapeCast S64x2048x4x128 a4 shapeCasts_S64x2048x512_S64x2048x4x128) (broadcastInDim S64x2048x4x128 ![0, 1, 2, 3] bcast_S64x2048x4x1_S64x2048x4x128_0_1_2_3 (broadcastInDim S64x2048x4x1 ![0, 1, 2] bcast_S64x2048x4_S64x2048x4x1_0_1_2 (truncf .bf16 a5 bitsLt_bf16_f32)))) shapeCasts_S64x2048x4x128_S64x2048x512

/-- The scores against the cache, the hidden ones at minus infinity. -/
def rCache (sm : Vec F S_ .f32) (a0 : Vec F S64x4x128x512 .bf16) (a1 : Vec F S64x4x128x64 .bf16) (a4 : Vec F S64x2048x512 .bf16) (a5 : Vec F S64x2048x4 .f32) (a6 : Vec F S64x2048x64 .bf16) (a7 : Vec F S64 .i32) : Vec F S64x4x128x2048 .f32 :=
  select (broadcastInDim S64x4x128x2048 ![0, 1, 2, 3] bcast_S64x1x1x2048_S64x4x128x2048_0_1_2_3 (broadcastInDim S64x1x1x2048 ![0, 3] bcast_S64x2048_S64x1x1x2048_0_3 (cmpi .slt (broadcastInDim S64x2048 ![0, 1] bcast_S1x2048_S64x2048_0_1 (broadcastInDim S1x2048 ![1] bcast_S2048_S1x2048_1 (iotaInDim S2048 32 0))) (broadcastInDim S64x2048 ![0, 1] bcast_S64x1_S64x2048_0_1 (broadcastInDim S64x1 ![0] bcast_S64_S64x1_0 a7))))) (mulf (Host.dotGeneral dot_S64x4x128x576_S64x2048x576_S64x4x128x2048_3_2_12_1_0_0 none (concatenate S64x4x128x576 3 [⟨S64x4x128x512, a0⟩, ⟨S64x4x128x64, a1⟩] concatenates_S64x4x128x512_S64x4x128x64_S64x4x128x576_d3) (concatenate S64x2048x576 2 [⟨S64x2048x512, (rLat a4 a5)⟩, ⟨S64x2048x64, a6⟩] concatenates_S64x2048x512_S64x2048x64_S64x2048x576_d2)) (broadcastInDim S64x4x128x2048 ![] bcast_S_S64x4x128x2048 sm)) (broadcastInDim S64x4x128x2048 ![] bcast_S_S64x4x128x2048 (id (constant S_ .f32 0xFF800000#32)))

/-- The scores against the new tokens, the hidden ones at minus infinity. -/
def rNew (sm : Vec F S_ .f32) (a0 : Vec F S64x4x128x512 .bf16) (a1 : Vec F S64x4x128x64 .bf16) (a2 : Vec F S64x4x512 .bf16) (a3 : Vec F S64x4x64 .bf16) : Vec F S64x4x128x4 .f32 :=
  select (broadcastInDim S64x4x128x4 ![0, 1, 2, 3] bcast_S1x4x1x4_S64x4x128x4_0_1_2_3 (broadcastInDim S1x4x1x4 ![1, 3] bcast_S4x4_S1x4x1x4_1_3 (cmpi .sle (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0)))))) (mulf (Host.dotGeneral dot_S64x4x128x576_S64x4x576_S64x4x128x4_3_2_12_1_0_0 none (concatenate S64x4x128x576 3 [⟨S64x4x128x512, a0⟩, ⟨S64x4x128x64, a1⟩] concatenates_S64x4x128x512_S64x4x128x64_S64x4x128x576_d3) (concatenate S64x4x576 2 [⟨S64x4x512, a2⟩, ⟨S64x4x64, a3⟩] concatenates_S64x4x512_S64x4x64_S64x4x576_d2)) (broadcastInDim S64x4x128x4 ![] bcast_S_S64x4x128x4 sm)) (broadcastInDim S64x4x128x4 ![] bcast_S_S64x4x128x4 (id (constant S_ .f32 0xFF800000#32)))

section all
variable (sm : Vec F S_ .f32) (a0 : Vec F S64x4x128x512 .bf16) (a1 : Vec F S64x4x128x64 .bf16) (a2 : Vec F S64x4x512 .bf16) (a3 : Vec F S64x4x64 .bf16)
  (a4 : Vec F S64x2048x512 .bf16) (a5 : Vec F S64x2048x4 .f32) (a6 : Vec F S64x2048x64 .bf16) (a7 : Vec F S64 .i32)

/-- All scores. -/
def rScore : Vec F S64x4x128x2052 .f32 :=
  concatenate S64x4x128x2052 3 [⟨S64x4x128x2048, (rCache sm a0 a1 a4 a5 a6 a7)⟩, ⟨S64x4x128x4, (rNew sm a0 a1 a2 a3)⟩] concatenates_S64x4x128x2048_S64x4x128x4_S64x4x128x2052_d3

/-- The greatest score of a row. -/
def rMax : Vec F S64x4x128 .f32 :=
  Host.reduce FloatOps.maximumf (rScore sm a0 a1 a2 a3 a4 a5 a6 a7) (constant S_ .f32 0xFF800000#32) reducesTo_S64x4x128x2052_S64x4x128_d3 h_S_

/-- The weights. -/
def rExp : Vec F S64x4x128x2052 .f32 :=
  Host.exp (subf (rScore sm a0 a1 a2 a3 a4 a5 a6 a7) (broadcastInDim S64x4x128x2052 ![0, 1, 2, 3] bcast_S64x4x128x1_S64x4x128x2052_0_1_2_3 (broadcastInDim S64x4x128x1 ![0, 1, 2] bcast_S64x4x128_S64x4x128x1_0_1_2 (rMax sm a0 a1 a2 a3 a4 a5 a6 a7))))

/-- The result. -/
def rOut : Vec F S64x512x512 .bf16 :=
  shapeCast S64x512x512 (truncf .bf16 (Host.divf (addf (Host.dotGeneral dot_S64x4x128x2048_S64x2048x512_S64x4x128x512_3_1_12_2_0_0 none (extractStridedSlice S64x4x128x2048 ![0, 0, 0, 0] (truncf .bf16 (rExp sm a0 a1 a2 a3 a4 a5 a6 a7) bitsLt_bf16_f32) slices_S64x4x128x2052_S64x4x128x2048_0_0_0_0) (rLat a4 a5)) (Host.dotGeneral dot_S64x4x128x4_S64x4x512_S64x4x128x512_3_1_12_2_0_0 none (extractStridedSlice S64x4x128x4 ![0, 0, 0, 2048] (truncf .bf16 (rExp sm a0 a1 a2 a3 a4 a5 a6 a7) bitsLt_bf16_f32) slices_S64x4x128x2052_S64x4x128x4_0_0_0_2048) a2)) (broadcastInDim S64x4x128x512 ![0, 1, 2, 3] bcast_S64x4x128x1_S64x4x128x512_0_1_2_3 (broadcastInDim S64x4x128x1 ![0, 1, 2] bcast_S64x4x128_S64x4x128x1_0_1_2 (Host.reduceAdd (rExp sm a0 a1 a2 a3 a4 a5 a6 a7) (constant S_ .f32 0x00000000#32) reducesTo_S64x4x128x2052_S64x4x128_d3 h_S_)))) bitsLt_bf16_f32) shapeCasts_S64x4x128x512_S64x512x512

end all

end defs

end Cert.ReferenceIdeal.Mla

end
-- ==== Proof.RefRun.lean ====
/- The run of the reference: what its result holds once it ends, as the named stages of the arguments. -/
module

public import proofs.«01_k».proof.Proof.RefDefs
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Mla

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v2` (window 1's): not opened here. -/
def reg_main_v2 (c : Dev nD) : Buf (Elt F) ((c.tc : Thread nD τ).loc main_v2) := (Gen.dats m 0 c).arrAt 1 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at argument `main_arg6`: as launched. -/
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
/-- The exit contents at argument `main_arg7`: as launched. -/
theorem exit_main_arg7 (c : Dev nD) : exitV m c (Proc.devRef .tc main_arg7) = m ((c.tc : Thread nD τ).loc main_arg7) :=
  (Pipeline.withArrays_of_ne _ c (Gen.V0 m c) _ main_arg7 (by exact (by decide : ∀ w, Pipeline.arrRef spec0 w ≠ main_arg7))).trans (Gen.V_main_arg7 m c)
/-- The exit contents at the region's result array `main_v2`. -/
theorem exit_main_v2 (c : Dev nD) : exitV m c (Proc.devRef .tc main_v2) = reg_main_v2 m c :=
  Pipeline.withArrays_arr spec0 Gen.launch0.win.arr_inj c (Gen.V0 m c) _ 1
/-- The exit contents at `main_v1`, computed before the region: its composed term of the arguments' launch contents. -/
theorem exit_main_v1 (c : Dev nD) : exitV m c (Proc.devRef .tc main_v1) = Host.divf (constant S_ .f32 0x3F800000#32) (Host.sqrt (constant S_ .f32 0x43400000#32)) :=
  (Pipeline.withArrays_of_ne _ c (Gen.V0 m c) _ main_v1 (by exact (by decide : ∀ w, Pipeline.arrRef spec0 w ≠ main_v1))).trans (by
    show Gen.V0 m c (Proc.devRef .tc main_v1) = _
    simp only [Gen.V0, Gen.hostOps0, List.flatten_cons, List.flatten_nil, List.append_nil, List.cons_append, List.nil_append]
    after_results <;> rfl)

/-- What the result holds, of the arguments. -/
def res_main_v52 (c : Dev nD) : Buf (Elt F) ((c.tc : Thread nD τ).loc main_v52) :=
  rOut (F := F) rScale (m ((c.tc : Thread nD τ).loc main_arg0)) (m ((c.tc : Thread nD τ).loc main_arg1)) (m ((c.tc : Thread nD τ).loc main_arg2)) (m ((c.tc : Thread nD τ).loc main_arg3)) (reg_main_v2 m c) (m ((c.tc : Thread nD τ).loc main_arg5)) (m ((c.tc : Thread nD τ).loc main_arg6)) (m ((c.tc : Thread nD τ).loc main_arg7))

set_option maxRecDepth 8192 in
set_option maxHeartbeats 2000000 in
/-- The later operations from any contents `V0`, read at result `main_v52`. -/
theorem tail_main_v52 (V0 : Valuation τ sig (Elt F)) :
    after (List.flatten [Gen.hostOps1, Gen.hostOps1_1, Gen.hostOps1_2, Gen.hostOps1_3, Gen.hostOps1_4]) V0 (Proc.devRef .tc main_v52) =
      rOut (F := F) (V0 (Proc.devRef .tc main_v1)) (V0 (Proc.devRef .tc main_arg0)) (V0 (Proc.devRef .tc main_arg1)) (V0 (Proc.devRef .tc main_arg2)) (V0 (Proc.devRef .tc main_arg3)) (V0 (Proc.devRef .tc main_v2)) (V0 (Proc.devRef .tc main_arg5)) (V0 (Proc.devRef .tc main_arg6)) (V0 (Proc.devRef .tc main_arg7)) := by
  simp only [Gen.hostOps1, Gen.hostOps1_1, Gen.hostOps1_2, Gen.hostOps1_3, Gen.hostOps1_4, TRef.ternary, TRef.unary, TRef.toBuf, TRef.ofBuf, cast_eq, List.flatten_cons, List.flatten_nil, List.append_nil, List.cons_append, List.nil_append]
  after_results_simp <;> rfl
/-- Result `main_v52` after the later operations from the region's exit contents. -/
theorem fin_main_v52 (c : Dev nD) :
    Pipeline.afterTail₀ cfgs (Gen.dats m) 0 (Gen.V0 m) [Gen.hostOps1, Gen.hostOps1_1, Gen.hostOps1_2, Gen.hostOps1_3, Gen.hostOps1_4] c main_v52 = res_main_v52 m c :=
  (tail_main_v52 (exitV m c)).trans (by
    rw [exit_main_arg0, exit_main_arg1, exit_main_arg2, exit_main_arg3, exit_main_arg5, exit_main_arg6, exit_main_arg7, exit_main_v2, exit_main_v1]
    rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v52) = res_main_v52 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v52 (Pipeline.mem_restRefs_of main_v52 (by decide) (by decide))).trans (fin_main_v52 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).1 0).trans (((Gen.dats m 0 c).arrAt_in 0 rfl _).trans ((Gen.A_eq m c 0).trans (Gen.V_main_arg4 m c))),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c)⟩) (Gen.run_main m ρ)

end Cert.ReferenceIdeal.Mla

end
-- ==== Proof.RefCast.lean ====
/- The codes that the reference's one-point call leaves: over the extended reals the cast changes nothing. -/
module

public import proofs.«01_k».proof.Proof.RefRun
public import Idealize.ShloMosaic.Lib.Pipeline.ValueKit

@[expose] public section

set_option maxRecDepth 16384

noncomputable section

namespace Cert.ReferenceIdeal.Mla

open Idealize.ShloMosaic Idealize.ShloMosaic.TcCoe Idealize.ShloMosaic.Tactic
open Idealize.SL Idealize.SL.Sem
open Idealize.ShloMosaic.Pipeline (Dat)
open Cert.ReferenceIdeal Cert.ReferenceIdeal.Gen

theorem idx_0 : ∀ t : Fin cfg0.N, (cfg0.win 0).index t = ![0, 0, 0] := by decide +kernel

variable (m : (ℓ : Loc nD τ sig) → Buf (Elt Ideal) ℓ)

theorem reg_eq (c : Dev nD) : reg_main_v2 m c = (m ((c : Thread nD τ).loc main_arg4) : S64x2048x512.Idx → EReal) := by
  refine (dats m 0 c).arrAt_eq_of_after_last 1 t0_0 (by decide +kernel) _ fun j => ?_
  blk_simp
  rw [after0_1]
  frame_out
  unfold k0_pay1
  pointwise
  blk_ext [iblk, V, idx_0 t0_0]

end Cert.ReferenceIdeal.Mla

end
-- ==== Proof.KernelIdeal.Tile.lean ====
/- The blocks that one trip works on, read at an index at `Ideal`: a tile of latent keys. -/
module

public import proofs.«01_k».proof.Proof.KernelIdeal.State
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen

/-! ## Reading a list of stores -/

section canon
variable {Val : EltTy → Type} [∀ e, Nonempty (Val e)] {s : Shape} {e : EltTy}

/-- Inside the newest store: its payload. -/
theorem canon_in {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : View.Piece Val s e) :: L)) hy.symm).trans
    (View.canon_cons_emb (Rect.unit off size inb) w L x)

/-- Outside the newest store: what the others left. -/
theorem canon_out {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ _ ?_
  show y ∉ (Rect.unit off size inb).set
  rw [Rect.mem_set_unit]
  intro hall
  have := hall a
  omega

end canon

/-- Rows interleaved from two halves, read at an index: a column, -/
theorem ilv_col {α : Type} (lo hi : S128x1.Idx → α) (h) (i : Fin 256) (j : Fin 1) :
    interleaveRows S256x1 lo hi h (ix2 i j : S256x1.Idx)
      = if i.val % 2 = 0 then lo (ix2 ⟨i.val / 2, by omega⟩ j) else hi (ix2 ⟨i.val / 2, by omega⟩ j) := by
  unfold interleaveRows
  dsimp only
  rw [show S256x1.row (ix2 i j : S256x1.Idx) = i.val from rfl]
  split
  · exact congrArg lo (funext fun b => match b with
      | ⟨0, _⟩ => rfl
      | ⟨1, _⟩ => rfl)
  · exact congrArg hi (funext fun b => match b with
      | ⟨0, _⟩ => rfl
      | ⟨1, _⟩ => rfl)

/-- and sixteen rows. -/
theorem ilv_row {α : Type} (lo hi : S8x512.Idx → α) (h) (i : Fin 16) (j : Fin 512) :
    interleaveRows S16x512 lo hi h (ix2 i j : S16x512.Idx)
      = if i.val % 2 = 0 then lo (ix2 ⟨i.val / 2, by omega⟩ j) else hi (ix2 ⟨i.val / 2, by omega⟩ j) := by
  unfold interleaveRows
  dsimp only
  rw [show S16x512.row (ix2 i j : S16x512.Idx) = i.val from rfl]
  split
  · exact congrArg lo (funext fun b => match b with
      | ⟨0, _⟩ => rfl
      | ⟨1, _⟩ => rfl)
  · exact congrArg hi (funext fun b => match b with
      | ⟨0, _⟩ => rfl
      | ⟨1, _⟩ => rfl)

/-- Sixteen copies of eight rows, -/
theorem cc16 {α : Type} (x : S8x128.Idx → α) (h) (g c : Fin 128) :
    concatenate S128x128 0 [⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩] h (ix2 g c : S128x128.Idx)
      = x (ix2 ⟨g.val % 8, by omega⟩ c) :=
  concatenate_replicate_apply (t := S128x128) (s₁ := S8x128) 0 16 x h rfl _ _ rfl fun b hb => match b with
    | ⟨0, _⟩ => absurd rfl hb
    | ⟨1, _⟩ => rfl

/-- and eight copies of one. -/
theorem cc8 {α : Type} (x : S1x512.Idx → α) (h) (r : Fin 8) (d : Fin 512) :
    concatenate S8x512 0 [⟨S1x512, x⟩, ⟨S1x512, x⟩, ⟨S1x512, x⟩, ⟨S1x512, x⟩, ⟨S1x512, x⟩, ⟨S1x512, x⟩, ⟨S1x512, x⟩, ⟨S1x512, x⟩] h (ix2 r d : S8x512.Idx)
      = x (ix2 0 d) :=
  concatenate_replicate_apply (t := S8x512) (s₁ := S1x512) 0 8 x h rfl _ _ (by show 0 = r.val % 1; omega) fun b hb => match b with
    | ⟨0, _⟩ => absurd rfl hb
    | ⟨1, _⟩ => rfl

theorem tr_at {α : Type} (x : S128x128.Idx → α) (h) (i j : Fin 128) :
    transpose S128x128 [1, 0] x h (ix2 i j : S128x128.Idx) = x (ix2 j i) := by
  pointwise

theorem tcc {α : Type} (x : S8x128.Idx → α) (h) (h') (c g : Fin 128) :
    transpose S128x128 [1, 0] (concatenate S128x128 0 [⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩, ⟨S8x128, x⟩] h) h' (ix2 c g : S128x128.Idx)
      = x (ix2 ⟨g.val % 8, by omega⟩ c) := (tr_at _ _ _ _).trans (cc16 _ _ _ _)

/-! ## The scales of a tile -/

theorem pay2_at (sc : FVec Ideal S1x4x256 .f32) (g : Fin 4) (c : Fin 256) :
    k0_pay2 (F := Ideal) sc (ix2 ⟨g.val % 8, by omega⟩ c : S8x256.Idx) = sc (ix3 0 g c) := by
  have hg : (⟨g.val % 8, by omega⟩ : Fin 8) = ⟨g.val, by omega⟩ := Fin.ext (by show g.val % 8 = g.val; omega)
  rw [hg]
  pointwise [k0_pay2]

theorem pay3_at (sc : FVec Ideal S1x4x256 .f32) (c : Fin 128) (g : Fin 4) :
    k0_pay3 (F := Ideal) sc (ix2 c ⟨g.val, by omega⟩ : S128x128.Idx) = sc (ix3 0 g ⟨c.val, by omega⟩) := by
  unfold k0_pay3
  dsimp only
  rw [truncf_apply, tcc]
  refine Eq.trans ?_ (pay2_at sc g ⟨c.val, by omega⟩)
  pointwise

theorem pay4_at (sc : FVec Ideal S1x4x256 .f32) (c : Fin 128) (g : Fin 4) :
    k0_pay4 (F := Ideal) sc (ix2 c ⟨g.val, by omega⟩ : S128x128.Idx) = sc (ix3 0 g ⟨128 + c.val, by omega⟩) := by
  unfold k0_pay4
  dsimp only
  rw [truncf_apply, tcc]
  refine Eq.trans ?_ (pay2_at sc g ⟨128 + c.val, by omega⟩)
  pointwise

/-- The scales of the even positions, -/
theorem pay5_at (sc : FVec Ideal S1x4x256 .f32) (i : Fin 128) (g : Fin 4) :
    k0_pay5 (F := Ideal) sc (ix2 i ⟨g.val, by omega⟩ : S128x128.Idx) = sc (ix3 0 g ⟨2 * i.val, by omega⟩) := by
  pointwise [k0_pay5]
  split
  · exact pay3_at sc ⟨2 * i.val, by omega⟩ g
  · refine (pay4_at sc ⟨2 * (i.val - 64), by omega⟩ g).trans (congrArg (fun q => sc (ix3 0 g q)) (Fin.ext ?_))
    show 128 + 2 * (i.val - 64) = 2 * i.val
    omega

/-- and of the odd ones. -/
theorem pay6_at (sc : FVec Ideal S1x4x256 .f32) (i : Fin 128) (g : Fin 4) :
    k0_pay6 (F := Ideal) sc (ix2 i ⟨g.val, by omega⟩ : S128x128.Idx) = sc (ix3 0 g ⟨2 * i.val + 1, by omega⟩) := by
  pointwise [k0_pay6]
  split
  · exact pay3_at sc ⟨2 * i.val + 1, by omega⟩ g
  · refine (pay4_at sc ⟨2 * (i.val - 64) + 1, by omega⟩ g).trans (congrArg (fun q => sc (ix3 0 g q)) (Fin.ext ?_))
    show 128 + (2 * (i.val - 64) + 1) = 2 * i.val + 1
    omega

/-- The scale of a position, out of the two halves. -/
theorem pay56_at (sc : FVec Ideal S1x4x256 .f32) (c : Fin 256) (g : Fin 4) :
    (if c.val % 2 = 0 then k0_pay5 (F := Ideal) sc (ix2 ⟨c.val / 2, by omega⟩ ⟨g.val, by omega⟩ : S128x128.Idx)
      else k0_pay6 (F := Ideal) sc (ix2 ⟨c.val / 2, by omega⟩ ⟨g.val, by omega⟩ : S128x128.Idx)) = sc (ix3 0 g c) := by
  split
  · refine (pay5_at sc ⟨c.val / 2, by omega⟩ g).trans (congrArg (fun q => sc (ix3 0 g q)) (Fin.ext ?_))
    show 2 * (c.val / 2) = c.val
    omega
  · refine (pay6_at sc ⟨c.val / 2, by omega⟩ g).trans (congrArg (fun q => sc (ix3 0 g q)) (Fin.ext ?_))
    show 2 * (c.val / 2) + 1 = c.val
    omega

theorem pay8_at (sc : FVec Ideal S1x4x256 .f32) (cd : FVec Ideal S1x256x512 .fp8e4m3) (c : Fin 256) (d : Fin 128) :
    k0_pay8 (F := Ideal) sc cd (ix2 c d : S256x128.Idx)
      = cd (ix3 0 c ⟨d.val, by omega⟩) * sc (ix3 0 0 c) := by
  pointwise [k0_pay8, k0_pay7]
  exact congrArg _ (pay56_at sc c 0)

theorem pay10_at (sc : FVec Ideal S1x4x256 .f32) (cd : FVec Ideal S1x256x512 .fp8e4m3) (c : Fin 256) (d : Fin 128) :
    k0_pay10 (F := Ideal) (k0_pay9 (F := Ideal) sc cd) (ix2 c d : S256x128.Idx)
      = cd (ix3 0 c ⟨128 + d.val, by omega⟩) * sc (ix3 0 1 c) := by
  pointwise [k0_pay10, k0_pay9, k0_pay7]
  exact congrArg _ (pay56_at sc c 1)

theorem pay11_at (sc : FVec Ideal S1x4x256 .f32) (cd : FVec Ideal S1x256x512 .fp8e4m3) (c : Fin 256) (d : Fin 128) :
    k0_pay11 (F := Ideal) (k0_pay5 (F := Ideal) sc) (k0_pay6 (F := Ideal) sc) (k0_pay7 (F := Ideal) cd) (ix2 c d : S256x128.Idx)
      = cd (ix3 0 c ⟨256 + d.val, by omega⟩) * sc (ix3 0 2 c) := by
  pointwise [k0_pay11, k0_pay7]
  exact congrArg _ (pay56_at sc c 2)

theorem pay12_at (sc : FVec Ideal S1x4x256 .f32) (cd : FVec Ideal S1x256x512 .fp8e4m3) (c : Fin 256) (d : Fin 128) :
    k0_pay12 (F := Ideal) (k0_pay5 (F := Ideal) sc) (k0_pay6 (F := Ideal) sc) (k0_pay7 (F := Ideal) cd) (ix2 c d : S256x128.Idx)
      = cd (ix3 0 c ⟨384 + d.val, by omega⟩) * sc (ix3 0 3 c) := by
  pointwise [k0_pay12, k0_pay7]
  exact congrArg _ (pay56_at sc c 3)

section tile
variable (v1 : Elt Ideal .i32) (k : Fin (k0_t1_loop v1).trips)

/-- The first column of a trip's tile. -/
theorem mult1 : (k0_mult1 v1 k).toNat = min k.val 7 * 256 := base_eq k.val (lt_trans k.isLt (t1_trips_lt v1))

/-- A column of the cache that a trip reads. -/
def bcol (j : ℕ) (c : Fin 256) : Fin 2048 := ⟨min j 7 * 256 + c.val, by
  have := min_le_right j 7
  have := c.isLt
  omega⟩

theorem scT_at (x5 : Vec Ideal S1x4x2048 .f32) (g : Fin 4) (c : Fin 256) :
    scT v1 k x5 (ix3 0 g c : S1x4x256.Idx) = x5 (ix3 0 g (bcol k.val c)) :=
  congrArg x5 (funext fun a => Fin.ext (match a with
    | ⟨0, _⟩ => rfl
    | ⟨1, _⟩ => (by show 0 + 1 * g.val = g.val; omega)
    | ⟨2, _⟩ => (by show (k0_mult1 v1 k).toNat + 1 * c.val = min k.val 7 * 256 + c.val; rw [mult1]; omega)))

theorem cdT_at (x4 : Vec Ideal S1x2048x512 .fp8e4m3) (c : Fin 256) (d : Fin 512) :
    cdT v1 k x4 (ix3 0 c d : S1x256x512.Idx) = x4 (ix3 0 (bcol k.val c) d) :=
  congrArg x4 (funext fun a => Fin.ext (match a with
    | ⟨0, _⟩ => rfl
    | ⟨1, _⟩ => (by show (k0_mult1 v1 k).toNat + 1 * c.val = min k.val 7 * 256 + c.val; rw [mult1]; omega)
    | ⟨2, _⟩ => (by show 0 + 1 * d.val = d.val; omega)))

theorem krT_at (x6 : Vec Ideal S1x64x2048 .bf16) (r : Fin 64) (c : Fin 256) :
    krT v1 k x6 (ix3 0 r c : S1x64x256.Idx) = x6 (ix3 0 r (bcol k.val c)) :=
  congrArg x6 (funext fun a => Fin.ext (match a with
    | ⟨0, _⟩ => rfl
    | ⟨1, _⟩ => (by show 0 + 1 * r.val = r.val; omega)
    | ⟨2, _⟩ => (by show (k0_mult1 v1 k).toNat + 1 * c.val = min k.val 7 * 256 + c.val; rw [mult1]; omega)))

/-- A cached latent key: a code times the scale of its group of 128. -/
theorem kPs_at (x4 : Vec Ideal S1x2048x512 .fp8e4m3) (x5 : Vec Ideal S1x4x2048 .f32) (c : Fin 256) (d : Fin 512) :
    View.canon (kPs v1 k x4 x5) (ix2 c d : S256x512.Idx)
      = x4 (ix3 0 (bcol k.val c) d) * x5 (ix3 0 ⟨d.val / 128, by omega⟩ (bcol k.val c)) := by
  have key : ∀ (g : Fin 4) (d' : Fin 128) (h : d.val = g.val * 128 + d'.val),
      cdT v1 k x4 (ix3 0 c ⟨g.val * 128 + d'.val, by omega⟩ : S1x256x512.Idx) * scT v1 k x5 (ix3 0 g c : S1x4x256.Idx)
        = (x4 (ix3 0 (bcol k.val c) d) : EReal) * x5 (ix3 0 ⟨d.val / 128, by omega⟩ (bcol k.val c)) := by
    intro g d' h
    rw [scT_at, cdT_at]
    have e1 : (⟨g.val * 128 + d'.val, by omega⟩ : Fin 512) = d := Fin.ext h.symm
    have e2 : (⟨d.val / 128, by omega⟩ : Fin 4) = g := Fin.ext (by show d.val / 128 = g.val; omega)
    rw [e1, e2]
  unfold kPs
  by_cases h3 : 384 ≤ d.val
  · refine (canon_in _ _ _ _ (ix2 c ⟨d.val - 384, by omega⟩ : S256x128.Idx) ?_).trans ?_
    · intro a
      match a with
      | ⟨0, _⟩ => show c.val = 0 + c.val; omega
      | ⟨1, _⟩ => show d.val = 384 + (d.val - 384); omega
    · refine (pay12_at _ _ c ⟨d.val - 384, by omega⟩).trans (key 3 ⟨d.val - 384, by omega⟩ ?_)
      show d.val = 3 * 128 + (d.val - 384); omega
  refine (canon_out _ _ _ _ 1 (Or.inl (by show d.val < 384; omega))).trans ?_
  by_cases h2 : 256 ≤ d.val
  · refine (canon_in _ _ _ _ (ix2 c ⟨d.val - 256, by omega⟩ : S256x128.Idx) ?_).trans ?_
    · intro a
      match a with
      | ⟨0, _⟩ => show c.val = 0 + c.val; omega
      | ⟨1, _⟩ => show d.val = 256 + (d.val - 256); omega
    · refine (pay11_at _ _ c ⟨d.val - 256, by omega⟩).trans (key 2 ⟨d.val - 256, by omega⟩ ?_)
      show d.val = 2 * 128 + (d.val - 256); omega
  refine (canon_out _ _ _ _ 1 (Or.inl (by show d.val < 256; omega))).trans ?_
  by_cases h1 : 128 ≤ d.val
  · refine (canon_in _ _ _ _ (ix2 c ⟨d.val - 128, by omega⟩ : S256x128.Idx) ?_).trans ?_
    · intro a
      match a with
      | ⟨0, _⟩ => show c.val = 0 + c.val; omega
      | ⟨1, _⟩ => show d.val = 128 + (d.val - 128); omega
    · refine (pay10_at _ _ c ⟨d.val - 128, by omega⟩).trans (key 1 ⟨d.val - 128, by omega⟩ ?_)
      show d.val = 1 * 128 + (d.val - 128); omega
  refine (canon_out _ _ _ _ 1 (Or.inl (by show d.val < 128; omega))).trans ?_
  refine (canon_in _ _ _ _ (ix2 c ⟨d.val, by omega⟩ : S256x128.Idx) ?_).trans ?_
  · intro a
    match a with
    | ⟨0, _⟩ => show c.val = 0 + c.val; omega
    | ⟨1, _⟩ => show d.val = 0 + d.val; omega
  · refine (pay8_at _ _ c ⟨d.val, by omega⟩).trans ((congrArg (fun q => cdT v1 k x4 (ix3 0 c q : S1x256x512.Idx) * scT v1 k x5 (ix3 0 0 c : S1x4x256.Idx)) (Fin.ext ?_)).trans (key 0 ⟨d.val, by omega⟩ ?_))
    · show d.val = 0 * 128 + d.val; omega
    · show d.val = 0 * 128 + d.val; omega

/-- A choice by a bit and an equality of small numbers. -/
theorem sel_eq {α : Type} (w : BitVec 1) (n t : ℕ) (hn : n < 2 ^ 32) (ht : t < 2 ^ 32) (a b : α) :
    Scalar.select (IntOp.andi w (IntOp.cmpi .eq (BitVec.ofNat 32 n) (BitVec.ofNat 32 t))) a b
      = if w = 1#1 ∧ n = t then a else b := by
  rw [WordCmp.cmpi_eq_ofNat hn ht]
  rcases (show w = 0#1 ∨ w = 1#1 from by revert w; decide) with rfl | rfl <;> by_cases h : n = t <;> simp [h, Scalar.select, IntOp.andi]

/-- The new tokens' latents put over the last four of sixteen rows. -/
theorem pay13_at (w : BitVec 1) (x2 : FVec Ideal S1x4x512 .bf16) (old : FVec Ideal S16x512 .bf16) (r : Fin 16) (d : Fin 512) :
    k0_pay14 (F := Ideal) (k0_pay13 (F := Ideal) (k0_pay58 (F := Ideal) x2) (k0_pay59 (F := Ideal) x2) w old) (ix2 r d : S16x512.Idx)
      = if w = 1#1 ∧ 12 ≤ r.val then x2 (ix3 0 ⟨(r.val - 12) % 4, by omega⟩ d) else old (ix2 r d) := by
  unfold k0_pay14 k0_pay13
  simp only [shapeCast_self]
  rw [ilv_row]
  unfold select
  simp only [cc8]
  pointwise [k0_pay58, k0_pay59, k0_pay57]
  simp only [sel_eq w (r.val / 2) 7 (by omega) (by omega), sel_eq w (r.val / 2) 6 (by omega) (by omega)]
  by_cases hw : w = 1#1
  · fin_cases r <;> simp [hw] <;> rfl
  · simp only [hw, false_and, if_false]
    split
    · refine congrArg old (congrArg (fun q => (ix2 q d : S16x512.Idx)) (Fin.ext ?_))
      show 2 * (r.val / 2) = r.val
      omega
    · refine congrArg old (congrArg (fun q => (ix2 q d : S16x512.Idx)) (Fin.ext ?_))
      show 2 * (r.val / 2) + 1 = r.val
      omega

/-- A tile's latent keys: the cached ones, and in the last tile the four new ones behind them. -/
theorem kT_at (x2 : Vec Ideal S1x4x512 .bf16) (x4 : Vec Ideal S1x2048x512 .fp8e4m3) (x5 : Vec Ideal S1x4x2048 .f32) (c : Fin 256) (d : Fin 512) :
    kT v1 k x2 x4 x5 (ix2 c d : S256x512.Idx)
      = if lastW (tilesW v1) k.val = 1#1 ∧ 252 ≤ c.val then x2 (ix3 0 ⟨(c.val - 252) % 4, by omega⟩ d)
        else x4 (ix3 0 (bcol k.val c) d) * x5 (ix3 0 ⟨d.val / 128, by omega⟩ (bcol k.val c)) := by
  unfold kT
  by_cases h : 240 ≤ c.val
  · refine (canon_in _ _ _ _ (ix2 ⟨c.val - 240, by omega⟩ d : S16x512.Idx) ?_).trans ?_
    · intro a
      match a with
      | ⟨0, _⟩ => show c.val = 240 + (c.val - 240); omega
      | ⟨1, _⟩ => show d.val = 0 + d.val; omega
    refine (pay13_at _ _ _ ⟨c.val - 240, by omega⟩ d).trans ?_
    have e : (lastW (tilesW v1) k.val = 1#1 ∧ 12 ≤ c.val - 240) ↔ (lastW (tilesW v1) k.val = 1#1 ∧ 252 ≤ c.val) := by
      constructor <;> rintro ⟨h1, h2⟩ <;> exact ⟨h1, by omega⟩
    by_cases hc : lastW (tilesW v1) k.val = 1#1 ∧ 252 ≤ c.val
    · rw [if_pos (e.mpr hc), if_pos hc]
      refine congrArg x2 (congrArg (fun q => (ix3 0 q d : S1x4x512.Idx)) (Fin.ext ?_))
      show (c.val - 240 - 12) % 4 = (c.val - 252) % 4
      omega
    · rw [if_neg (fun q => hc (e.mp q)), if_neg hc]
      refine Eq.trans ?_ (kPs_at v1 k x4 x5 c d)
      refine congrArg (View.canon (kPs v1 k x4 x5)) (funext fun a => Fin.ext ?_)
      match a with
      | ⟨0, _⟩ => show 240 + 1 * (c.val - 240) = c.val; omega
      | ⟨1, _⟩ => show 0 + 1 * d.val = d.val; omega
  · rw [if_neg (fun q => h (by omega))]
    exact (canon_out _ _ _ _ 0 (Or.inl (by show c.val < 240; omega))).trans (kPs_at v1 k x4 x5 c d)

end tile

end Cert.KernelIdeal.Mla

end
-- ==== Proof.KernelIdeal.Rope.lean ====
/- The blocks that one trip works on, read at an index at `Ideal`: rope keys over their mask, and rope queries. -/
module

public import proofs.«01_k».proof.Proof.KernelIdeal.Tile

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen Idealize.ShloMosaic.WordCmp

/-! ## Words -/

theorem iv_eq (k : ℕ) : Scf.iv 0#32 1#32 k = BitVec.ofNat 32 k := by
  show 0#32 + BitVec.ofNat 32 k * 1#32 = _
  simp

/-- The number of tiles of a cache length in range. -/
theorem tilesW_eq (n : ℕ) (h : n ≤ 2048) : tilesW (BitVec.ofNat 32 n) = BitVec.ofNat 32 ((n + 259) / 256) := by
  have e : Scalar.subi (Scalar.addi (Scalar.addi (BitVec.ofNat 32 n) 4#32) 256#32) 1#32 = BitVec.ofNat 32 (n + 259) := by
    apply BitVec.eq_of_toNat_eq
    show ((BitVec.ofNat 32 n + 4#32 + 256#32 - 1#32 : BitVec 32)).toNat = _
    simp only [BitVec.toNat_sub, BitVec.toNat_add, BitVec.toNat_ofNat]
    omega
  unfold tilesW
  rw [e]
  have hc : ¬ IntOp.SDivCorner (BitVec.ofNat 32 (n + 259)) 256#32 := by
    rintro (h | ⟨_, h⟩)
    · exact absurd h (by decide)
    · exact absurd h (by decide)
  show (if IntOp.SDivCorner (BitVec.ofNat 32 (n + 259)) 256#32 then _ else (BitVec.ofNat 32 (n + 259)).sdiv 256#32) = _
  rw [if_neg hc]
  have m1 : (BitVec.ofNat 32 (n + 259)).msb = false := by
    rw [BitVec.msb_eq_false_iff_two_mul_lt, BitVec.toNat_ofNat]; omega
  have m2 : (256#32).msb = false := by decide
  rw [BitVec.sdiv_eq, m1, m2]
  apply BitVec.eq_of_toNat_eq
  show (BitVec.ofNat 32 (n + 259) / 256#32).toNat = _
  rw [BitVec.toNat_udiv, toNat_ofNat_of_lt (show n + 259 < 2 ^ 32 by omega), toNat_ofNat_of_lt (show 256 < 2 ^ 32 by omega),
    toNat_ofNat_of_lt (show (n + 259) / 256 < 2 ^ 32 by omega)]

theorem trips_eq (n : ℕ) (h : n ≤ 2048) : (k0_t1_loop (BitVec.ofNat 32 n)).trips = (n + 259) / 256 := by
  rw [t1_trips, tilesW_eq n h, toInt_ofNat_of_lt (by omega)]
  rfl

theorem lastW_eq (n : ℕ) (h : n ≤ 2048) (k : ℕ) (hk : k < (n + 259) / 256) :
    lastW (tilesW (BitVec.ofNat 32 n)) k = BitVec.ofBool (decide (k + 1 = (n + 259) / 256)) := by
  unfold lastW
  rw [iv_eq, tilesW_eq n h]
  have e : Scalar.subi (BitVec.ofNat 32 ((n + 259) / 256)) 1#32 = BitVec.ofNat 32 ((n + 259) / 256 - 1) := by
    apply BitVec.eq_of_toNat_eq
    show ((BitVec.ofNat 32 ((n + 259) / 256) - 1#32 : BitVec 32)).toNat = _
    simp only [BitVec.toNat_sub, BitVec.toNat_ofNat]
    omega
  rw [e]
  show IntOp.cmpi .eq _ _ = _
  rw [cmpi_eq_ofNat (by omega) (by omega)]
  congr 2
  apply propext
  omega

/-- A choice by a bit and a bound on a small number. -/
theorem sel_ge {α : Type} (w : BitVec 1) (n t : ℕ) (hn : n < 2 ^ 31) (ht : t < 2 ^ 31) (a b : α) :
    Scalar.select (IntOp.andi w (IntOp.cmpi .sge (BitVec.ofNat 32 n) (BitVec.ofNat 32 t))) a b
      = if w = 1#1 ∧ t ≤ n then a else b := by
  rw [cmpi_sge_ofNat hn ht]
  rcases (show w = 0#1 ∨ w = 1#1 from by revert w; decide) with rfl | rfl <;> by_cases h : t ≤ n <;> simp [h, Scalar.select, IntOp.andi]

theorem minus_inf_eq : (Named.named κ "minus_inf" 0xFF61B1E6#32 : Ideal .f32) = (⊥ : EReal) := by
  simp [Named.named, κ]

theorem hnew (c : Fin 256) (r : Fin 64) :
    IntOp.andi (IntOp.cmpi .sge (IntOp.subi (BitVec.ofNat 32 c.val) 252#32) 0#32)
        (IntOp.cmpi .sle (IntOp.subi (BitVec.ofNat 32 c.val) 252#32) (BitVec.ofNat 32 r.val))
      = BitVec.ofBool (decide (252 ≤ c.val ∧ c.val - 252 ≤ r.val)) := by
  by_cases h : 252 ≤ c.val
  · have e : IntOp.subi (BitVec.ofNat 32 c.val) 252#32 = BitVec.ofNat 32 (c.val - 252) := by
      apply BitVec.eq_of_toNat_eq
      show ((BitVec.ofNat 32 c.val - 252#32 : BitVec 32)).toNat = _
      simp only [BitVec.toNat_sub, BitVec.toNat_ofNat]
      omega
    rw [e, cmpi_sge_ofNat (a := c.val - 252) (b := 0) (by omega) (by omega), cmpi_sle_ofNat (by omega) (by omega), andi_ofBool]
    simp [h]
  · rw [cmpi_sge_zero]
    have e : ¬ (IntOp.subi (BitVec.ofNat 32 c.val) 252#32).toNat < 2 ^ (32 - 1) := by
      show ¬ ((BitVec.ofNat 32 c.val - 252#32 : BitVec 32)).toNat < _
      simp only [BitVec.toNat_sub, BitVec.toNat_ofNat]
      omega
    simp only [e, h, false_and, decide_false]
    simp [IntOp.andi]

theorem pay17_at (n k : ℕ) (hn : n ≤ 2048) (hk : k ≤ 9) (b : Bool) (r : Fin 64) (c : Fin 256) :
    k0_pay19 (F := Ideal) (k0_pay17 (F := Ideal) (BitVec.ofNat 32 n) (BitVec.ofNat 32 k) (BitVec.ofBool b))
        (Named.named κ "minus_inf" 0xFF61B1E6#32) (k0_pay18 (F := Ideal)) (ix2 r c : S64x256.Idx)
      = if (k * 256 + c.val < n ∨ (b = true ∧ 252 ≤ c.val ∧ c.val - 252 ≤ r.val)) ∨ 4 ≤ r.val then (0 : EReal) else ⊥ := by
  pointwise [k0_pay19, k0_pay17, k0_pay18]
  rw [show Scalar.muli (BitVec.ofNat 32 k) 256#32 = BitVec.ofNat 32 (k * 256) from muli_ofNat k 256, addi_ofNat,
    cmpi_slt_ofNat (by omega) (by omega), cmpi_sge_ofNat (a := r.val) (b := 4) (by omega) (by omega), hnew, minus_inf_eq,
    andi_ofBool, ori_ofBool, ori_ofBool]
  show (if BitVec.ofBool _ = 1#1 then (0 : EReal) else ⊥) = _
  refine if_congr ?_ rfl rfl
  simp only [ofBool_eq_one_iff, Bool.or_eq_true, Bool.and_eq_true, decide_eq_true_eq]

theorem pay16_at (x3 : FVec Ideal S1x4x64 .bf16) (w : BitVec 1) (old : FVec Ideal S64x128 .bf16) (r : Fin 64) (c : Fin 128) :
    k0_pay16 (F := Ideal) (k0_pay56 (F := Ideal) (k0_pay54 (F := Ideal) x3) (k0_pay55 (F := Ideal))) w old (ix2 r c : S64x128.Idx)
      = if w = 1#1 ∧ 124 ≤ c.val then x3 (ix3 0 ⟨(c.val - 124) % 4, by omega⟩ r) else old (ix2 r c) := by
  pointwise [k0_pay16, k0_pay56, k0_pay54, k0_pay55]
  refine (sel_ge w c.val 124 (by omega) (by omega) _ _).trans ?_
  by_cases h : w = 1#1 ∧ 124 ≤ c.val
  · refine (if_pos h).trans (Eq.trans ?_ (if_pos h).symm)
    refine (dif_neg (by omega)).trans ?_
    refine congrArg x3 (congrArg (fun q => (ix3 0 q r : S1x4x64.Idx)) (Fin.ext ?_))
    show c.val - 124 = (c.val - 124) % 4
    omega
  · exact (if_neg h).trans (if_neg h).symm

section tile
variable (n : ℕ) (hn : n ≤ 2048) (k : Fin (k0_t1_loop (BitVec.ofNat 32 n)).trips)

include hn in
theorem last_iff : lastW (tilesW (BitVec.ofNat 32 n)) k.val = 1#1 ↔ k.val + 1 = (n + 259) / 256 := by
  rw [lastW_eq n hn k.val (lt_of_lt_of_eq k.isLt (trips_eq n hn))]
  exact ofBool_decide_eq_one_iff _

theorem exp2_scale_eq : (Named.named κ "exp2_scale" 0x3DD53B95#32 : Ideal .f32) = (((Real.sqrt 192)⁻¹ * (Real.log 2)⁻¹ : ℝ) : EReal) := by
  simp [Named.named, κ]

include hn in
theorem k_lt : k.val < (n + 259) / 256 := lt_of_lt_of_eq k.isLt (trips_eq n hn)

include hn in
/-- The mask's rows under a tile's rope keys: row `64 + s` hides what sequence position `s` may not see. -/
theorem bT_hi (x3 : Vec Ideal S1x4x64 .bf16) (x6 : Vec Ideal S1x64x2048 .bf16) (R : Fin 128) (i : Fin 64) (hR : R.val = 64 + i.val) (c : Fin 256) :
    bT (BitVec.ofNat 32 n) k x3 x6 (ix2 R c : S128x256.Idx)
      = if (k.val * 256 + c.val < n ∨ (k.val + 1 = (n + 259) / 256 ∧ 252 ≤ c.val ∧ c.val - 252 ≤ i.val)) ∨ 4 ≤ i.val then (0 : EReal) else ⊥ := by
  have hk := k_lt n hn k
  unfold bT
  refine (canon_in _ _ _ _ (ix2 i c : S64x256.Idx) ?_).trans ?_
  · intro a
    match a with
    | ⟨0, _⟩ => show R.val = 64 + i.val; omega
    | ⟨1, _⟩ => show c.val = 0 + c.val; omega
  · rw [iv_eq, lastW_eq n hn k.val hk]
    refine (pay17_at n k.val hn (by omega) _ i c).trans ?_
    simp only [decide_eq_true_eq]

include hn in
/-- A tile's rope keys: the cached ones, and in the last tile the four new ones behind them. -/
theorem bT_lo (x3 : Vec Ideal S1x4x64 .bf16) (x6 : Vec Ideal S1x64x2048 .bf16) (R : Fin 128) (r : Fin 64) (hR : R.val = r.val) (c : Fin 256) :
    bT (BitVec.ofNat 32 n) k x3 x6 (ix2 R c : S128x256.Idx)
      = if k.val + 1 = (n + 259) / 256 ∧ 252 ≤ c.val then x3 (ix3 0 ⟨(c.val - 252) % 4, by omega⟩ r)
        else x6 (ix3 0 r (bcol k.val c)) := by
  have hb : View.canon (bPs (BitVec.ofNat 32 n) k x6) (ix2 R c : S128x256.Idx) = x6 (ix3 0 r (bcol k.val c)) := by
    unfold bPs
    refine (canon_in _ _ _ _ (ix2 r c : S64x256.Idx) ?_).trans ?_
    · intro a
      match a with
      | ⟨0, _⟩ => show R.val = 0 + r.val; omega
      | ⟨1, _⟩ => show c.val = 0 + c.val; omega
    · refine Eq.trans ?_ (krT_at (BitVec.ofNat 32 n) k x6 r c)
      generalize krT (BitVec.ofNat 32 n) k x6 = y
      pointwise [k0_pay15]
  unfold bT
  refine (canon_out _ _ _ _ 0 (Or.inl (by show R.val < 64; omega))).trans ?_
  by_cases h : 128 ≤ c.val
  · refine (canon_in _ _ _ _ (ix2 r ⟨c.val - 128, by omega⟩ : S64x128.Idx) ?_).trans ?_
    · intro a
      match a with
      | ⟨0, _⟩ => show R.val = 0 + r.val; omega
      | ⟨1, _⟩ => show c.val = 128 + (c.val - 128); omega
    refine (pay16_at x3 _ _ r ⟨c.val - 128, by omega⟩).trans ?_
    by_cases hc : k.val + 1 = (n + 259) / 256 ∧ 252 ≤ c.val
    · refine (if_pos ⟨(last_iff n hn k).mpr hc.1, by show 124 ≤ c.val - 128; omega⟩).trans (Eq.trans ?_ (if_pos hc).symm)
      refine congrArg x3 (congrArg (fun q => (ix3 0 q r : S1x4x64.Idx)) (Fin.ext ?_))
      show (c.val - 128 - 124) % 4 = (c.val - 252) % 4
      omega
    · refine (if_neg (fun q => hc ⟨(last_iff n hn k).mp q.1, ?_⟩)).trans (Eq.trans ?_ (if_neg hc).symm)
      · have := q.2
        have : 124 ≤ c.val - 128 := this
        omega
      refine Eq.trans ?_ hb
      refine congrArg (View.canon (bPs (BitVec.ofNat 32 n) k x6)) (funext fun a => Fin.ext ?_)
      match a with
      | ⟨0, _⟩ => show 0 + 1 * r.val = R.val; omega
      | ⟨1, _⟩ => show 128 + 1 * (c.val - 128) = c.val; omega
  · refine (canon_out _ _ _ _ 1 (Or.inl (by show c.val < 128; omega))).trans ?_
    exact hb.trans (if_neg (fun q => h (by omega))).symm

end tile

theorem selq (x1 : FVec Ideal S1x1x64x128 .bf16) (h l : Fin 128) (t : ℕ) (ht : 64 ≤ t) (ht' : t < 128) :
    Scalar.select (IntOp.cmpi .eq (BitVec.ofNat 32 l.val) (BitVec.ofNat 32 t)) (1 : EReal)
      (if hl : l.val < 64 then x1 (ix4 0 0 ⟨l.val, hl⟩ h) else 0)
      = if hl : l.val < 64 then x1 (ix4 0 0 ⟨l.val, hl⟩ h) else if l.val = t then 1 else 0 := by
  rw [cmpi_eq_ofNat (by omega) (by omega)]
  by_cases hl : l.val < 64
  · have e : ¬ l.val = t := by omega
    simp [e, hl, Scalar.select]
  · by_cases e : l.val = t
    · simp [e, Scalar.select]
      omega
    · simp [e, hl, Scalar.select]

/-- The rope queries of one sequence position, with a one in the lane that meets that position's row of the mask. -/
theorem pay50_at (x1 : FVec Ideal S1x1x64x128 .bf16) (h l : Fin 128) :
    k0_pay50 (F := Ideal) x1 (ix2 h l : S128x128.Idx)
      = if hl : l.val < 64 then x1 (ix4 0 0 ⟨l.val, hl⟩ h) else if l.val = 64 + 0 then 1 else 0 := by
  pointwise [k0_pay50]
  exact selq x1 h l 64 (by omega) (by omega)

theorem pay51_at (x1 : FVec Ideal S1x1x64x128 .bf16) (h l : Fin 128) :
    k0_pay51 (F := Ideal) x1 (ix2 h l : S128x128.Idx)
      = if hl : l.val < 64 then x1 (ix4 0 0 ⟨l.val, hl⟩ h) else if l.val = 64 + 1 then 1 else 0 := by
  pointwise [k0_pay51]
  exact selq x1 h l 65 (by omega) (by omega)

theorem pay52_at (x1 : FVec Ideal S1x1x64x128 .bf16) (h l : Fin 128) :
    k0_pay52 (F := Ideal) laneW x1 (ix2 h l : S128x128.Idx)
      = if hl : l.val < 64 then x1 (ix4 0 0 ⟨l.val, hl⟩ h) else if l.val = 64 + 2 then 1 else 0 := by
  pointwise [k0_pay52, laneW]
  exact selq x1 h l 66 (by omega) (by omega)

theorem pay53_at (x1 : FVec Ideal S1x1x64x128 .bf16) (h l : Fin 128) :
    k0_pay53 (F := Ideal) laneW x1 (ix2 h l : S128x128.Idx)
      = if hl : l.val < 64 then x1 (ix4 0 0 ⟨l.val, hl⟩ h) else if l.val = 64 + 3 then 1 else 0 := by
  pointwise [k0_pay53, laneW]
  exact selq x1 h l 67 (by omega) (by omega)

theorem qS0_at (x1 : Vec Ideal S1x4x64x128 .bf16) (r : Fin 64) (h : Fin 128) : qS0 x1 (ix4 0 0 r h : S1x1x64x128.Idx) = x1 (ix4 0 0 r h) := by
  pointwise [qS0]
theorem qS1_at (x1 : Vec Ideal S1x4x64x128 .bf16) (r : Fin 64) (h : Fin 128) : qS1 x1 (ix4 0 0 r h : S1x1x64x128.Idx) = x1 (ix4 0 1 r h) := by
  pointwise [qS1]
theorem qS2_at (x1 : Vec Ideal S1x4x64x128 .bf16) (r : Fin 64) (h : Fin 128) : qS2 x1 (ix4 0 0 r h : S1x1x64x128.Idx) = x1 (ix4 0 2 r h) := by
  pointwise [qS2]
theorem qS3_at (x1 : Vec Ideal S1x4x64x128 .bf16) (r : Fin 64) (h : Fin 128) : qS3 x1 (ix4 0 0 r h : S1x1x64x128.Idx) = x1 (ix4 0 3 r h) := by
  pointwise [qS3]

theorem qT_0 (x1 : Vec Ideal S1x4x64x128 .bf16) (R : Fin 512) (h l : Fin 128) (hR : R.val = h.val) :
    qT x1 (ix2 R l : S512x128.Idx)
      = if hl : l.val < 64 then x1 (ix4 0 0 ⟨l.val, hl⟩ h) else if l.val = 64 + 0 then (1 : EReal) else 0 := by
  unfold qT qPs
  refine (canon_out _ _ _ _ 0 (Or.inl (by show R.val < 384; omega))).trans ?_
  refine (canon_out _ _ _ _ 0 (Or.inl (by show R.val < 256; omega))).trans ?_
  refine (canon_out _ _ _ _ 0 (Or.inl (by show R.val < 128; omega))).trans ?_
  refine (canon_in _ _ _ _ (ix2 h l : S128x128.Idx) ?_).trans ?_
  · intro a
    match a with
    | ⟨0, _⟩ => show R.val = 0 + h.val; omega
    | ⟨1, _⟩ => show l.val = 0 + l.val; omega
  · refine (pay50_at (qS0 x1) h l).trans ?_
    simp only [qS0_at]

theorem qT_1 (x1 : Vec Ideal S1x4x64x128 .bf16) (R : Fin 512) (h l : Fin 128) (hR : R.val = 128 + h.val) :
    qT x1 (ix2 R l : S512x128.Idx)
      = if hl : l.val < 64 then x1 (ix4 0 1 ⟨l.val, hl⟩ h) else if l.val = 64 + 1 then (1 : EReal) else 0 := by
  unfold qT qPs
  refine (canon_out _ _ _ _ 0 (Or.inl (by show R.val < 384; omega))).trans ?_
  refine (canon_out _ _ _ _ 0 (Or.inl (by show R.val < 256; omega))).trans ?_
  refine (canon_in _ _ _ _ (ix2 h l : S128x128.Idx) ?_).trans ?_
  · intro a
    match a with
    | ⟨0, _⟩ => show R.val = 128 + h.val; omega
    | ⟨1, _⟩ => show l.val = 0 + l.val; omega
  · refine (pay51_at (qS1 x1) h l).trans ?_
    simp only [qS1_at]

theorem qT_2 (x1 : Vec Ideal S1x4x64x128 .bf16) (R : Fin 512) (h l : Fin 128) (hR : R.val = 256 + h.val) :
    qT x1 (ix2 R l : S512x128.Idx)
      = if hl : l.val < 64 then x1 (ix4 0 2 ⟨l.val, hl⟩ h) else if l.val = 64 + 2 then (1 : EReal) else 0 := by
  unfold qT qPs
  refine (canon_out _ _ _ _ 0 (Or.inl (by show R.val < 384; omega))).trans ?_
  refine (canon_in _ _ _ _ (ix2 h l : S128x128.Idx) ?_).trans ?_
  · intro a
    match a with
    | ⟨0, _⟩ => show R.val = 256 + h.val; omega
    | ⟨1, _⟩ => show l.val = 0 + l.val; omega
  · refine (pay52_at (qS2 x1) h l).trans ?_
    simp only [qS2_at]

theorem qT_3 (x1 : Vec Ideal S1x4x64x128 .bf16) (R : Fin 512) (h l : Fin 128) (hR : R.val = 384 + h.val) :
    qT x1 (ix2 R l : S512x128.Idx)
      = if hl : l.val < 64 then x1 (ix4 0 3 ⟨l.val, hl⟩ h) else if l.val = 64 + 3 then (1 : EReal) else 0 := by
  unfold qT qPs
  refine (canon_in _ _ _ _ (ix2 h l : S128x128.Idx) ?_).trans ?_
  · intro a
    match a with
    | ⟨0, _⟩ => show R.val = 384 + h.val; omega
    | ⟨1, _⟩ => show l.val = 0 + l.val; omega
  · refine (pay53_at (qS3 x1) h l).trans ?_
    simp only [qS3_at]

theorem qT_at (x1 : Vec Ideal S1x4x64x128 .bf16) (R : Fin 512) (s : Fin 4) (h l : Fin 128) (hR : R.val = s.val * 128 + h.val) :
    qT x1 (ix2 R l : S512x128.Idx)
      = if hl : l.val < 64 then x1 (ix4 0 s ⟨l.val, hl⟩ h) else if l.val = 64 + s.val then (1 : EReal) else 0 := by
  match s, hR with
  | 0, hR => exact qT_0 x1 R h l (by show R.val = h.val; simpa using hR)
  | 1, hR => exact qT_1 x1 R h l (by simpa using hR)
  | 2, hR => exact qT_2 x1 R h l (by simpa using hR)
  | 3, hR => exact qT_3 x1 R h l (by simpa using hR)

end Cert.KernelIdeal.Mla

end
-- ==== Proof.KernelIdeal.Step.lean ====
/- What one trip leaves in the running maximum, denominator and numerators, read at an index at `Ideal`. -/
module

public import proofs.«01_k».proof.Proof.KernelIdeal.Rope

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen

section step
variable (kt : FVec Ideal S256x512 .bf16) (x0 : FVec Ideal S1x512x512 .bf16) (qt : FVec Ideal S512x128 .bf16) (bt : FVec Ideal S128x256 .bf16)
  (m l : FVec Ideal S512x128 .f32) (acc : FVec Ideal S512x512 .f32)

theorem ofBits_bot : Ideal.ofBits .f32 0xFF800000#32 = (⊥ : EReal) := by simp [Ideal.ofBits, Ideal.ieee]

/-- The scores of a tile. -/
theorem pay20_at (R : Fin 512) (c : Fin 256) :
    k0_pay20 (F := Ideal) kt x0 qt bt (ix2 R c : S512x256.Idx)
      = ((∑ d : Fin 512, (x0 (ix3 0 R d) : EReal) * kt (ix2 c d)) + ∑ l : Fin 128, (qt (ix2 R l) : EReal) * bt (ix2 l c))
          * (((Real.sqrt 192)⁻¹ * (Real.log 2)⁻¹ : ℝ) : EReal) := by
  pointwise [k0_pay20]
  rw [exp2_scale_eq]

/-- The new maximum. -/
theorem pay21_at (R : Fin 512) (l : Fin 128) :
    k0_pay21 (F := Ideal) kt x0 qt bt m (ix2 R l : S512x128.Idx)
      = max (m (ix2 R l) : EReal) (Finset.univ.sup fun c : Fin 256 => (k0_pay20 (F := Ideal) kt x0 qt bt (ix2 R c : S512x256.Idx) : EReal)) := by
  pointwise [k0_pay21]
  rw [ofBits_bot]
  rfl

theorem pay24_at (R : Fin 512) (l : Fin 128) :
    k0_pay24 (F := Ideal) kt x0 qt bt m (ix2 R l : S512x128.Idx) = k0_pay21 (F := Ideal) kt x0 qt bt m (ix2 R l : S512x128.Idx) := by
  pointwise [k0_pay24]

/-- The factor that rescales what was summed so far. -/
theorem pay22_at (R : Fin 512) (l : Fin 128) :
    k0_pay22 (F := Ideal) kt x0 qt bt m (ix2 R l : S512x128.Idx)
      = Ideal.exp2 ((m (ix2 R l) : EReal) - k0_pay21 (F := Ideal) kt x0 qt bt m (ix2 R l : S512x128.Idx)) := by
  pointwise [k0_pay22]
  rfl

/-- The weights. -/
theorem pay23_at (R : Fin 512) (c : Fin 256) :
    k0_pay23 (F := Ideal) kt x0 qt bt m (ix2 R c : S512x256.Idx)
      = Ideal.exp2 ((k0_pay20 (F := Ideal) kt x0 qt bt (ix2 R c : S512x256.Idx) : EReal) - k0_pay21 (F := Ideal) kt x0 qt bt m (ix2 R 0 : S512x128.Idx)) := by
  pointwise [k0_pay23]
  rfl

/-- The new denominator. -/
theorem pay25_at (R : Fin 512) (j : Fin 128) :
    k0_pay63 (F := Ideal) (k0_pay25 (F := Ideal) kt x0 qt bt m l) (ix2 R j : S512x128.Idx)
      = (l (ix2 R j) : EReal) * k0_pay22 (F := Ideal) kt x0 qt bt m (ix2 R j : S512x128.Idx)
          + ∑ c : Fin 256, (k0_pay23 (F := Ideal) kt x0 qt bt m (ix2 R c : S512x256.Idx) : EReal) := by
  pointwise [k0_pay63, k0_pay25]

/-- The new numerators. -/
theorem pay64_at (al : FVec Ideal S512x128 .f32) (p : FVec Ideal S512x256 .bf16) (R : Fin 512) (j : Fin 512) :
    k0_pay64 (F := Ideal) kt al p acc (ix2 R j : S512x512.Idx)
      = (acc (ix2 R j) : EReal) * al (ix2 R 0) + ∑ c : Fin 256, (p (ix2 R c) : EReal) * kt (ix2 c j) := by
  pointwise [k0_pay64]

theorem pay60_at (R : Fin 512) (j : Fin 128) : k0_pay60 (F := Ideal) (ix2 R j : S512x128.Idx) = (⊥ : EReal) := by
  pointwise [k0_pay60]
  rw [minus_inf_eq]
theorem pay61_at (R : Fin 512) (j : Fin 128) : k0_pay61 (F := Ideal) (ix2 R j : S512x128.Idx) = (0 : EReal) := by
  pointwise [k0_pay61]
theorem pay62_at (R j : Fin 512) : k0_pay62 (F := Ideal) (ix2 R j : S512x512.Idx) = (0 : EReal) := by
  pointwise [k0_pay62]

/-- The quotient that is stored. -/
theorem pay67_at (L : FVec Ideal S512x1 .f32) (R j : Fin 512) :
    k0_pay1 (F := Ideal) (k0_pay67 (F := Ideal) acc L) (ix3 0 R j : S1x512x512.Idx) = Ideal.div (acc (ix2 R j)) (L (ix2 R 0)) := by
  pointwise [k0_pay1, k0_pay67]

end step

end Cert.KernelIdeal.Mla

end
-- ==== Proof.Online.lean ====
/- The arithmetic of a softmax taken tile by tile, over the extended reals: a running maximum, denominator and numerator that
   are rescaled by every new tile end as the sums against the final maximum. -/
module

public import Idealize.ShloMosaic.Lib.Pointwise

@[expose] public section

noncomputable section

namespace Cert.Online

open Idealize.ShloMosaic

/-! ## Powers of two -/

theorem exp2_nonneg (x : EReal) : 0 ≤ Ideal.exp2 x := by
  induction x with
  | bot => simp
  | top => simp
  | coe r =>
    rw [Ideal.exp2_coe]
    exact EReal.coe_nonneg.mpr (Real.rpow_nonneg (by norm_num) r)

theorem exp2_ne_top {x : EReal} (h : x ≤ 0) : Ideal.exp2 x ≠ ⊤ := by
  induction x with
  | bot => simp
  | top => exact absurd h (by simp)
  | coe r => rw [Ideal.exp2_coe]; exact EReal.coe_ne_top _

theorem sub_nonpos' {a b : EReal} (h : a ≤ b) : a - b ≤ 0 := by
  induction b with
  | bot =>
    have : a = ⊥ := le_bot_iff.mp h
    subst this
    simp
  | top => simp
  | coe r => exact EReal.sub_nonpos.mpr h

/-- Rescaling: a weight against an old maximum times the factor from the old maximum to a new one. -/
theorem exp2_rescale {t m m' : EReal} (h : t ≤ m) (h' : m ≤ m') :
    Ideal.exp2 (t - m) * Ideal.exp2 (m - m') = Ideal.exp2 (t - m') := by
  induction m' with
  | bot =>
    have hm : m = ⊥ := le_bot_iff.mp h'
    subst hm
    have ht : t = ⊥ := le_bot_iff.mp h
    subst ht
    simp
  | top => simp [EReal.sub_top]
  | coe r =>
    induction m with
    | bot =>
      have ht : t = ⊥ := le_bot_iff.mp h
      subst ht
      simp
    | top => exact absurd h' (by simp)
    | coe q =>
      induction t with
      | bot => simp
      | top => exact absurd h (by simp)
      | coe s =>
        rw [← EReal.coe_sub, ← EReal.coe_sub, ← EReal.coe_sub, Ideal.exp2_coe, Ideal.exp2_coe, Ideal.exp2_coe, ← EReal.coe_mul]
        show (((2 : ℝ) ^ (s - q) * (2 : ℝ) ^ (q - r) : ℝ) : EReal) = (((2 : ℝ) ^ (s - r) : ℝ) : EReal)
        rw [← Real.rpow_add (by norm_num)]
        congr 2
        ring

/-- Powers of two of scaled differences are exponentials of the differences. -/
theorem exp2_scaled (u v : EReal) :
    Ideal.exp2 (u * (((Real.log 2)⁻¹ : ℝ) : EReal) - v * (((Real.log 2)⁻¹ : ℝ) : EReal)) = Ideal.exp (u - v) := by
  have hl : 0 < Real.log 2 := Real.log_pos (by norm_num)
  have hk : 0 < (Real.log 2)⁻¹ := inv_pos.mpr hl
  induction v with
  | bot =>
    induction u with
    | bot => simp [EReal.bot_mul_coe_of_pos hk]
    | top => simp [EReal.bot_mul_coe_of_pos hk, EReal.top_mul_coe_of_pos hk]
    | coe r =>
      rw [EReal.bot_mul_coe_of_pos hk, ← EReal.coe_mul, EReal.coe_sub_bot, EReal.coe_sub_bot, Ideal.exp2_top, Ideal.exp_top]
  | top => simp [EReal.top_mul_coe_of_pos hk, EReal.sub_top]
  | coe r =>
    induction u with
    | bot =>
      rw [EReal.bot_mul_coe_of_pos hk, ← EReal.coe_mul]
      simp
    | top =>
      rw [EReal.top_mul_coe_of_pos hk, ← EReal.coe_mul, EReal.top_sub_coe, EReal.top_sub_coe, Ideal.exp2_top, Ideal.exp_top]
    | coe q =>
      rw [← EReal.coe_mul, ← EReal.coe_mul, ← EReal.coe_sub, ← EReal.coe_sub, Ideal.exp2_coe, Ideal.exp_coe]
      show (((2 : ℝ) ^ (q * (Real.log 2)⁻¹ - r * (Real.log 2)⁻¹) : ℝ) : EReal) = ((Real.exp (q - r) : ℝ) : EReal)
      rw [Real.rpow_def_of_pos (by norm_num)]
      congr 2
      field_simp

/-! ## Sums with a finite factor that is not negative -/

theorem sum_mul_of {ι : Type} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-! ## The running softmax -/

section run
variable (t : ℕ → Fin 256 → EReal)

/-- The running maximum before tile `n`. -/
def rM : ℕ → EReal
  | 0 => ⊥
  | n + 1 => max (rM n) (Finset.univ.sup (t n))

theorem le_rM {n j : ℕ} (h : j < n) (c : Fin 256) : t j c ≤ rM t n := by
  induction n with
  | zero => omega
  | succ n ih =>
    rcases Nat.lt_succ_iff_lt_or_eq.mp h with h | rfl
    · exact (ih h).trans (le_max_left _ _)
    · exact (Finset.le_sup (f := t j) (Finset.mem_univ c)).trans (le_max_right _ _)

theorem rM_le {n : ℕ} {z : EReal} (h : ∀ j < n, ∀ c, t j c ≤ z) : rM t n ≤ z := by
  induction n with
  | zero => exact bot_le
  | succ n ih => exact max_le (ih fun j hj => h j (by omega)) (Finset.sup_le fun c _ => h n (by omega) c)

/-- The running sum of weights times values before tile `n`. -/
def rA (k : ℕ → Fin 256 → EReal) : ℕ → EReal
  | 0 => 0
  | n + 1 => rA k n * Ideal.exp2 (rM t n - rM t (n + 1)) + ∑ c, Ideal.exp2 (t n c - rM t (n + 1)) * k n c

/-- It is the sum against the maximum so far. -/
theorem rA_eq (k : ℕ → Fin 256 → EReal) (n : ℕ) :
    rA t k n = ∑ j ∈ Finset.range n, ∑ c, Ideal.exp2 (t j c - rM t n) * k j c := by
  induction n with
  | zero => simp [rA]
  | succ n ih =>
    have hm : rM t n ≤ rM t (n + 1) := le_max_left _ _
    have h0 := exp2_nonneg (rM t n - rM t (n + 1))
    have ht := exp2_ne_top (sub_nonpos' hm)
    rw [rA, ih, Finset.sum_range_succ, sum_mul_of _ _ h0 ht]
    refine congrArg (· + _) (Finset.sum_congr rfl fun j hj => ?_)
    rw [sum_mul_of _ _ h0 ht]
    refine Finset.sum_congr rfl fun c _ => ?_
    rw [mul_right_comm, exp2_rescale (le_rM t (Finset.mem_range.mp hj) c) hm]

end run

/-! ## Tiles as one range -/

/-- A sum over tiles of 256 as one range. -/
theorem sum_tiles (φ : ℕ → EReal) (N : ℕ) :
    ∑ j ∈ Finset.range N, ∑ c : Fin 256, φ (j * 256 + c.val) = ∑ q ∈ Finset.range (N * 256), φ q := by
  induction N with
  | zero => simp
  | succ N ih => rw [Finset.sum_range_succ, ih, Nat.succ_mul, Finset.sum_range_add, Finset.sum_range (fun x => φ (N * 256 + x))]

/-- The visible positions: `n` of the cache, then the last four of all tiles. -/
theorem sum_visible (n N : ℕ) (G H : ℕ → EReal) (hN : n + 4 ≤ N * 256) :
    ∑ q ∈ Finset.range (N * 256), (if q < n then G q else if N * 256 ≤ q + 4 then H (q + 4 - N * 256) else 0)
      = ∑ q ∈ Finset.range n, G q + ∑ i ∈ Finset.range 4, H i := by
  obtain ⟨m, hm⟩ : ∃ m, N * 256 = n + m + 4 := ⟨N * 256 - (n + 4), by omega⟩
  rw [hm, Finset.sum_range_add, Finset.sum_range_add]
  have e1 : ∑ q ∈ Finset.range n, (if q < n then G q else if n + m + 4 ≤ q + 4 then H (q + 4 - (n + m + 4)) else 0) = ∑ q ∈ Finset.range n, G q :=
    Finset.sum_congr rfl fun q hq => if_pos (Finset.mem_range.mp hq)
  have e2 : ∑ x ∈ Finset.range m, (if n + x < n then G (n + x) else if n + m + 4 ≤ n + x + 4 then H (n + x + 4 - (n + m + 4)) else 0) = 0 :=
    Finset.sum_eq_zero fun x hx => by
      have := Finset.mem_range.mp hx
      rw [if_neg (by omega), if_neg (by omega)]
  have e3 : ∑ x ∈ Finset.range 4, (if n + m + x < n then G (n + m + x) else if n + m + 4 ≤ n + m + x + 4 then H (n + m + x + 4 - (n + m + 4)) else 0) = ∑ i ∈ Finset.range 4, H i :=
    Finset.sum_congr rfl fun x hx => by
      rw [if_neg (by omega), if_pos (by omega)]
      congr 1
      omega
  rw [e1, e2, e3, add_zero]

/-- The whole cache, of which only the first `n` positions count. -/
theorem sum_cache (n : ℕ) (hn : n ≤ 2048) (G : ℕ → EReal) :
    ∑ p : Fin 2048, (if p.val < n then G p.val else 0) = ∑ q ∈ Finset.range n, G q := by
  obtain ⟨m, hm⟩ : ∃ m, 2048 = n + m := ⟨2048 - n, by omega⟩
  rw [← Finset.sum_range (fun q => if q < n then G q else 0), hm, Finset.sum_range_add,
    Finset.sum_congr rfl fun q hq => if_pos (Finset.mem_range.mp hq),
    Finset.sum_eq_zero (s := Finset.range m) fun x _ => if_neg (by omega), add_zero]

end Cert.Online

end
-- ==== Proof.KernelIdeal.Row.lean ====
/- A row of the block that the body leaves, in closed form: a softmax taken tile by tile over the scores of the row. -/
module

public import proofs.«01_k».proof.Proof.KernelIdeal.Step
public import proofs.«01_k».proof.Proof.KernelIdeal.Out
public import proofs.«01_k».proof.Proof.Online

@[expose] public section

set_option maxRecDepth 16384

noncomputable section

namespace Cert.KernelIdeal.Mla

open Idealize.ShloMosaic Idealize.ShloMosaic.TcCoe Idealize.ShloMosaic.Tactic
open Idealize.SL Idealize.SL.Sem
open Cert.KernelIdeal Cert.KernelIdeal.Gen Cert.Online

section row
variable (n : ℕ) (hn : n ≤ 2048)
variable (x0 : Vec Ideal S1x512x512 .bf16) (x1 : Vec Ideal S1x4x64x128 .bf16) (x2 : Vec Ideal S1x4x512 .bf16)
  (x3 : Vec Ideal S1x4x64 .bf16) (x4 : Vec Ideal S1x2048x512 .fp8e4m3) (x5 : Vec Ideal S1x4x2048 .f32) (x6 : Vec Ideal S1x64x2048 .bf16)

/-- The latent key in row `c` of tile `j`. -/
def keyC (j : ℕ) (c : Fin 256) (d : Fin 512) : EReal :=
  if j + 1 = (n + 259) / 256 ∧ 252 ≤ c.val then x2 (ix3 0 ⟨(c.val - 252) % 4, by omega⟩ d)
  else (x4 (ix3 0 (bcol j c) d) : EReal) * x5 (ix3 0 ⟨d.val / 128, by omega⟩ (bcol j c))

/-- The rope key in column `c` of tile `j`. -/
def ropeC (j : ℕ) (c : Fin 256) (r : Fin 64) : EReal :=
  if j + 1 = (n + 259) / 256 ∧ 252 ≤ c.val then x3 (ix3 0 ⟨(c.val - 252) % 4, by omega⟩ r) else x6 (ix3 0 r (bcol j c))

/-- What sequence position `s` may see of tile `j`. -/
def VisC (s : Fin 4) (j : ℕ) (c : Fin 256) : Prop :=
  j * 256 + c.val < n ∨ (j + 1 = (n + 259) / 256 ∧ 252 ≤ c.val ∧ c.val - 252 ≤ s.val)

open Classical in
/-- The score of tile `j`, column `c`. -/
def tC (R : Fin 512) (s : Fin 4) (h : Fin 128) (j : ℕ) (c : Fin 256) : EReal :=
  ((∑ d : Fin 512, (x0 (ix3 0 R d) : EReal) * keyC n x2 x4 x5 j c d)
      + ((∑ r : Fin 64, (x1 (ix4 0 s r h) : EReal) * ropeC n x3 x6 j c r) + if VisC n s j c then 0 else ⊥))
    * (((Real.sqrt 192)⁻¹ * (Real.log 2)⁻¹ : ℝ) : EReal)

section tile
variable (k : Fin (k0_t1_loop (BitVec.ofNat 32 n)).trips)

include hn in
theorem kT_eq (c : Fin 256) (d : Fin 512) :
    kT (F := Ideal) (BitVec.ofNat 32 n) k x2 x4 x5 (ix2 c d : S256x512.Idx) = keyC n x2 x4 x5 k.val c d := by
  refine (kT_at (BitVec.ofNat 32 n) k x2 x4 x5 c d).trans ?_
  exact if_congr (and_congr_left' (last_iff n hn k)) rfl rfl

include hn in
theorem tail_eq (R : Fin 512) (s : Fin 4) (h : Fin 128) (hR : R.val = s.val * 128 + h.val) (c : Fin 256) :
    (∑ l : Fin 128, (qT (F := Ideal) x1 (ix2 R l : S512x128.Idx) : EReal) * bT (F := Ideal) (BitVec.ofNat 32 n) k x3 x6 (ix2 l c : S128x256.Idx))
      = (∑ r : Fin 64, (x1 (ix4 0 s r h) : EReal) * ropeC n x3 x6 k.val c r) + (open Classical in if VisC n s k.val c then 0 else ⊥) := by
  refine (Fin.sum_univ_add (a := 64) (b := 64) (fun l : Fin 128 =>
    (qT (F := Ideal) x1 (ix2 R l : S512x128.Idx) : EReal) * bT (F := Ideal) (BitVec.ofNat 32 n) k x3 x6 (ix2 l c : S128x256.Idx))).trans ?_
  refine congrArg₂ (· + ·) ?_ ?_
  · refine Finset.sum_congr rfl fun r _ => ?_
    refine congrArg₂ (· * ·) ?_ ?_
    · refine (qT_at x1 R s h (Fin.castAdd 64 r : Fin 128) hR).trans ?_
      exact dif_pos r.isLt
    · exact bT_lo n hn k x3 x6 (Fin.castAdd 64 r : Fin 128) r rfl c
  · refine (Finset.sum_eq_single (⟨s.val, by omega⟩ : Fin 64) ?_ ?_).trans ?_
    · intro i _ hi
      refine (congrArg (· * _) ?_).trans (zero_mul _)
      refine (qT_at x1 R s h (Fin.natAdd 64 i : Fin 128) hR).trans ?_
      refine (dif_neg (by show ¬ 64 + i.val < 64; omega)).trans (if_neg ?_)
      intro e
      have e : 64 + i.val = 64 + s.val := e
      exact hi (Fin.ext (by show i.val = s.val; omega))
    · intro h0
      exact absurd (Finset.mem_univ _) h0
    · refine (congrArg (· * _) ?_).trans ((one_mul _).trans ?_)
      · refine (qT_at x1 R s h (Fin.natAdd 64 (⟨s.val, by omega⟩ : Fin 64) : Fin 128) hR).trans ?_
        exact (dif_neg (by show ¬ 64 + s.val < 64; omega)).trans (if_pos rfl)
      · refine (bT_hi n hn k x3 x6 (Fin.natAdd 64 (⟨s.val, by omega⟩ : Fin 64) : Fin 128) ⟨s.val, by omega⟩ rfl c).trans ?_
        have e : ((k.val * 256 + c.val < n ∨ (k.val + 1 = (n + 259) / 256 ∧ 252 ≤ c.val ∧ c.val - 252 ≤ s.val)) ∨ 4 ≤ s.val) ↔ VisC n s k.val c :=
          ⟨fun q => q.resolve_right (by omega), Or.inl⟩
        by_cases q : VisC n s k.val c
        · exact (if_pos (e.mpr q)).trans (if_pos q).symm
        · exact (if_neg (fun z => q (e.mp z))).trans (if_neg q).symm

include hn in
theorem score_eq (R : Fin 512) (s : Fin 4) (h : Fin 128) (hR : R.val = s.val * 128 + h.val) (c : Fin 256) :
    k0_pay20 (F := Ideal) (kT (BitVec.ofNat 32 n) k x2 x4 x5) x0 (qT x1) (bT (BitVec.ofNat 32 n) k x3 x6) (ix2 R c : S512x256.Idx)
      = tC n x0 x1 x2 x3 x4 x5 x6 R s h k.val c := by
  refine (pay20_at (kT (BitVec.ofNat 32 n) k x2 x4 x5) x0 (qT x1) (bT (BitVec.ofNat 32 n) k x3 x6) R c).trans ?_
  refine congrArg (· * _) (congrArg₂ (· + ·) ?_ ?_)
  · exact Finset.sum_congr rfl fun d _ => congrArg (_ * ·) (kT_eq n hn x2 x4 x5 k c d)
  · exact tail_eq n hn x1 x3 x6 k R s h hR c

include hn in
theorem max_eq (R : Fin 512) (s : Fin 4) (h : Fin 128) (hR : R.val = s.val * 128 + h.val) (M : Vec Ideal S512x128 .f32)
    (hM : M (ix2 R 0 : S512x128.Idx) = rM (tC n x0 x1 x2 x3 x4 x5 x6 R s h) k.val) :
    k0_pay21 (F := Ideal) (kT (BitVec.ofNat 32 n) k x2 x4 x5) x0 (qT x1) (bT (BitVec.ofNat 32 n) k x3 x6) M (ix2 R 0 : S512x128.Idx)
      = rM (tC n x0 x1 x2 x3 x4 x5 x6 R s h) (k.val + 1) := by
  refine (pay21_at (kT (BitVec.ofNat 32 n) k x2 x4 x5) x0 (qT x1) (bT (BitVec.ofNat 32 n) k x3 x6) M R 0).trans ?_
  refine congrArg₂ max hM ?_
  exact Finset.sup_congr rfl fun c _ => score_eq n hn x0 x1 x2 x3 x4 x5 x6 k R s h hR c

include hn in
theorem alpha_eq (R : Fin 512) (s : Fin 4) (h : Fin 128) (hR : R.val = s.val * 128 + h.val) (M : Vec Ideal S512x128 .f32)
    (hM : M (ix2 R 0 : S512x128.Idx) = rM (tC n x0 x1 x2 x3 x4 x5 x6 R s h) k.val) :
    k0_pay22 (F := Ideal) (kT (BitVec.ofNat 32 n) k x2 x4 x5) x0 (qT x1) (bT (BitVec.ofNat 32 n) k x3 x6) M (ix2 R 0 : S512x128.Idx)
      = Ideal.exp2 (rM (tC n x0 x1 x2 x3 x4 x5 x6 R s h) k.val - rM (tC n x0 x1 x2 x3 x4 x5 x6 R s h) (k.val + 1)) := by
  refine (pay22_at (kT (BitVec.ofNat 32 n) k x2 x4 x5) x0 (qT x1) (bT (BitVec.ofNat 32 n) k x3 x6) M R 0).trans ?_
  exact congrArg Ideal.exp2 (congrArg₂ (· - ·) hM (max_eq n hn x0 x1 x2 x3 x4 x5 x6 k R s h hR M hM))

include hn in
theorem weight_eq (R : Fin 512) (s : Fin 4) (h : Fin 128) (hR : R.val = s.val * 128 + h.val) (M : Vec Ideal S512x128 .f32)
    (hM : M (ix2 R 0 : S512x128.Idx) = rM (tC n x0 x1 x2 x3 x4 x5 x6 R s h) k.val) (c : Fin 256) :
    k0_pay23 (F := Ideal) (kT (BitVec.ofNat 32 n) k x2 x4 x5) x0 (qT x1) (bT (BitVec.ofNat 32 n) k x3 x6) M (ix2 R c : S512x256.Idx)
      = Ideal.exp2 (tC n x0 x1 x2 x3 x4 x5 x6 R s h k.val c - rM (tC n x0 x1 x2 x3 x4 x5 x6 R s h) (k.val + 1)) := by
  refine (pay23_at (kT (BitVec.ofNat 32 n) k x2 x4 x5) x0 (qT x1) (bT (BitVec.ofNat 32 n) k x3 x6) M R c).trans ?_
  exact congrArg Ideal.exp2 (congrArg₂ (· - ·) (score_eq n hn x0 x1 x2 x3 x4 x5 x6 k R s h hR c)
    (max_eq n hn x0 x1 x2 x3 x4 x5 x6 k R s h hR M hM))

end tile

include hn in
theorem stM_eq (R : Fin 512) (s : Fin 4) (h : Fin 128) (hR : R.val = s.val * 128 + h.val) (j : ℕ) (hj : j ≤ (k0_t1_loop (BitVec.ofNat 32 n)).trips) :
    stM (F := Ideal) (BitVec.ofNat 32 n) x0 x1 x2 x3 x4 x5 x6 j (ix2 R 0 : S512x128.Idx) = rM (tC n x0 x1 x2 x3 x4 x5 x6 R s h) j := by
  induction j with
  | zero => exact pay60_at R 0
  | succ j ih =>
    have hlt : j < (k0_t1_loop (BitVec.ofNat 32 n)).trips := hj
    refine (congrFun (dif_pos hlt) (ix2 R 0 : S512x128.Idx)).trans ?_
    refine (pay24_at (kT (BitVec.ofNat 32 n) ⟨j, hlt⟩ x2 x4 x5) x0 (qT x1) (bT (BitVec.ofNat 32 n) ⟨j, hlt⟩ x3 x6) _ R 0).trans ?_
    exact max_eq n hn x0 x1 x2 x3 x4 x5 x6 ⟨j, hlt⟩ R s h hR _ (ih (le_of_lt hlt))

include hn in
theorem stL_eq (R : Fin 512) (s : Fin 4) (h : Fin 128) (hR : R.val = s.val * 128 + h.val) (j : ℕ) (hj : j ≤ (k0_t1_loop (BitVec.ofNat 32 n)).trips) :
    stL (F := Ideal) (BitVec.ofNat 32 n) x0 x1 x2 x3 x4 x5 x6 j (ix2 R 0 : S512x128.Idx)
      = rA (tC n x0 x1 x2 x3 x4 x5 x6 R s h) (fun _ _ => 1) j := by
  induction j with
  | zero => exact pay61_at R 0
  | succ j ih =>
    have hlt : j < (k0_t1_loop (BitVec.ofNat 32 n)).trips := hj
    have hM := stM_eq n hn x0 x1 x2 x3 x4 x5 x6 R s h hR j (le_of_lt hlt)
    refine (congrFun (dif_pos hlt) (ix2 R 0 : S512x128.Idx)).trans ?_
    refine (pay25_at (kT (BitVec.ofNat 32 n) ⟨j, hlt⟩ x2 x4 x5) x0 (qT x1) (bT (BitVec.ofNat 32 n) ⟨j, hlt⟩ x3 x6) _ _ R 0).trans ?_
    refine congrArg₂ (· + ·) (congrArg₂ (· * ·) (ih (le_of_lt hlt)) (alpha_eq n hn x0 x1 x2 x3 x4 x5 x6 ⟨j, hlt⟩ R s h hR _ hM)) ?_
    exact Finset.sum_congr rfl fun c _ => (weight_eq n hn x0 x1 x2 x3 x4 x5 x6 ⟨j, hlt⟩ R s h hR _ hM c).trans (mul_one _).symm

include hn in
theorem stA_eq (R : Fin 512) (s : Fin 4) (h : Fin 128) (hR : R.val = s.val * 128 + h.val) (d : Fin 512) (j : ℕ) (hj : j ≤ (k0_t1_loop (BitVec.ofNat 32 n)).trips) :
    stA (F := Ideal) (BitVec.ofNat 32 n) x0 x1 x2 x3 x4 x5 x6 j (ix2 R d : S512x512.Idx)
      = rA (tC n x0 x1 x2 x3 x4 x5 x6 R s h) (fun j c => keyC n x2 x4 x5 j c d) j := by
  induction j with
  | zero => exact pay62_at R d
  | succ j ih =>
    have hlt : j < (k0_t1_loop (BitVec.ofNat 32 n)).trips := hj
    have hM := stM_eq n hn x0 x1 x2 x3 x4 x5 x6 R s h hR j (le_of_lt hlt)
    refine (congrFun (dif_pos hlt) (ix2 R d : S512x512.Idx)).trans ?_
    refine (pay64_at (kT (BitVec.ofNat 32 n) ⟨j, hlt⟩ x2 x4 x5) _ _ _ R d).trans ?_
    refine congrArg₂ (· + ·) (congrArg₂ (· * ·) (ih (le_of_lt hlt)) (alpha_eq n hn x0 x1 x2 x3 x4 x5 x6 ⟨j, hlt⟩ R s h hR _ hM)) ?_
    exact Finset.sum_congr rfl fun c _ => congrArg₂ (· * ·) (weight_eq n hn x0 x1 x2 x3 x4 x5 x6 ⟨j, hlt⟩ R s h hR _ hM c)
      (kT_eq n hn x2 x4 x5 ⟨j, hlt⟩ c d)

theorem ld_lane (L : Vec Ideal S512x128 .f32) (R : Fin 512) :
    View.ld (Val := Elt Ideal) (e' := .f32) L (Rect.unit ![0, 0] S512x1.size inb_S512x128_S512x1_0_0) (ix2 R 0 : S512x1.Idx) = L (ix2 R 0) := by
  pointwise

include hn in
/-- A row of the block that the body leaves. -/
theorem outB_at (R : Fin 512) (s : Fin 4) (h : Fin 128) (hR : R.val = s.val * 128 + h.val) (d : Fin 512) :
    outB (F := Ideal) (BitVec.ofNat 32 n) x0 x1 x2 x3 x4 x5 x6 (ix3 0 R d : S1x512x512.Idx)
      = Ideal.div (rA (tC n x0 x1 x2 x3 x4 x5 x6 R s h) (fun j c => keyC n x2 x4 x5 j c d) ((n + 259) / 256))
          (rA (tC n x0 x1 x2 x3 x4 x5 x6 R s h) (fun _ _ => 1) ((n + 259) / 256)) := by
  unfold outB
  rw [trips_eq n hn]
  refine (pay67_at _ _ R d).trans ?_
  have ht := (trips_eq n hn).symm.le
  exact congrArg₂ Ideal.div (stA_eq n hn x0 x1 x2 x3 x4 x5 x6 R s h hR d _ ht)
    ((ld_lane _ R).trans (stL_eq n hn x0 x1 x2 x3 x4 x5 x6 R s h hR _ ht))

end row

end Cert.KernelIdeal.Mla

end
-- ==== Proof.RefValue.lean ====
/- What the stages of the reference hold at an index, at `Ideal`. -/
module

public import proofs.«01_k».proof.Proof.RefDefs
public import Idealize.ShloMosaic.Lib.Pointwise
public import Idealize.ShloMosaic.Lib.WordCmp

@[expose] public section

set_option maxRecDepth 16384

noncomputable section

namespace Cert.ReferenceIdeal.Mla

open Idealize.ShloMosaic Idealize.ShloMosaic.TcCoe Idealize.ShloMosaic.Tactic
open Idealize.SL Idealize.SL.Sem
open Cert.ReferenceIdeal Cert.ReferenceIdeal.Gen Idealize.ShloMosaic.WordCmp

/-- The position of a cached token among all. -/
def pOld (x : Fin 2048) : Fin 2052 := ⟨x.val, by omega⟩
/-- The position of a new token among all. -/
def pNew (x : Fin 4) : Fin 2052 := ⟨2048 + x.val, by omega⟩

section ideal
variable (sm : Vec Ideal S_ .f32) (a0 : Vec Ideal S64x4x128x512 .bf16) (a1 : Vec Ideal S64x4x128x64 .bf16) (a2 : Vec Ideal S64x4x512 .bf16) (a3 : Vec Ideal S64x4x64 .bf16)
  (a4 : Vec Ideal S64x2048x512 .bf16) (a5 : Vec Ideal S64x2048x4 .f32) (a6 : Vec Ideal S64x2048x64 .bf16) (a7 : Vec Ideal S64 .i32)

theorem rScale_at : rScale (F := Ideal) ix0 = (((Real.sqrt 192)⁻¹ : ℝ) : EReal) := by
  pointwise [rScale]
  have h192 : Ideal.ofBits .f32 0x43400000#32 = ((192 : ℝ) : EReal) := by
    simp [Ideal.ofBits, Ideal.ieee]
    rw [← EReal.coe_mul]
    norm_num
  have hs : Real.sqrt 192 ≠ 0 := by positivity
  rw [h192, Ideal.sqrt_coe, if_neg (by norm_num), Ideal.div_coe hs, one_mul, one_div]

theorem rLat_at (b : Fin 64) (p : Fin 2048) (d : Fin 512) :
    rLat (F := Ideal) a4 a5 (ix3 b p d : S64x2048x512.Idx) = (a4 (ix3 b p d) : EReal) * a5 (ix3 b p ⟨d.val / 128, by omega⟩) := by
  pointwise [rLat]

theorem ofBits_bot : Ideal.ofBits .f32 0xFF800000#32 = (⊥ : EReal) := by simp [Ideal.ofBits, Ideal.ieee]

/-- A score against the cache. -/
theorem rCache_at (b : Fin 64) (s : Fin 4) (h : Fin 128) (p : Fin 2048) (n : ℕ) (hn : n ≤ 2048) (h7 : a7 (ix1 b) = BitVec.ofNat 32 n) :
    rCache (F := Ideal) sm a0 a1 a4 a5 a6 a7 (ix4 b s h p : S64x4x128x2048.Idx)
      = if p.val < n then ((∑ x : Fin 512, (a0 (ix4 b s h x) : EReal) * rLat (F := Ideal) a4 a5 (ix3 b p x))
          + ∑ x : Fin 64, (a1 (ix4 b s h x) : EReal) * a6 (ix3 b p x)) * sm ix0 else (⊥ : EReal) := by
  pointwise [rCache]
  rw [h7, cmpi_slt_ofNat (by omega) (by omega)]
  refine if_congr (ofBool_decide_eq_one_iff _) rfl ?_
  exact ofBits_bot

/-- A score against the new tokens. -/
theorem rNew_at (b : Fin 64) (s : Fin 4) (h : Fin 128) (i : Fin 4) :
    rNew (F := Ideal) sm a0 a1 a2 a3 (ix4 b s h i : S64x4x128x4.Idx)
      = if i.val ≤ s.val then ((∑ x : Fin 512, (a0 (ix4 b s h x) : EReal) * a2 (ix3 b i x))
          + ∑ x : Fin 64, (a1 (ix4 b s h x) : EReal) * a3 (ix3 b i x)) * sm ix0 else (⊥ : EReal) := by
  pointwise [rNew]
  rw [cmpi_sle_ofNat (by omega) (by omega)]
  refine if_congr (ofBool_decide_eq_one_iff _) rfl ?_
  exact ofBits_bot

theorem rScore_at (b : Fin 64) (s : Fin 4) (h : Fin 128) (p : Fin 2052) :
    rScore (F := Ideal) sm a0 a1 a2 a3 a4 a5 a6 a7 (ix4 b s h p : S64x4x128x2052.Idx)
      = if hp : p.val < 2048 then rCache (F := Ideal) sm a0 a1 a4 a5 a6 a7 (ix4 b s h ⟨p.val, hp⟩ : S64x4x128x2048.Idx)
        else rNew (F := Ideal) sm a0 a1 a2 a3 (ix4 b s h ⟨p.val - 2048, by omega⟩ : S64x4x128x4.Idx) := by
  pointwise [rScore]

theorem rMax_at (b : Fin 64) (s : Fin 4) (h : Fin 128) :
    rMax (F := Ideal) sm a0 a1 a2 a3 a4 a5 a6 a7 (ix3 b s h : S64x4x128.Idx)
      = Finset.univ.sup fun p : Fin 2052 => (rScore (F := Ideal) sm a0 a1 a2 a3 a4 a5 a6 a7 (ix4 b s h p : S64x4x128x2052.Idx) : EReal) := by
  pointwise [rMax]
  rw [ofBits_bot]
  rfl

theorem rExp_at (b : Fin 64) (s : Fin 4) (h : Fin 128) (p : Fin 2052) :
    rExp (F := Ideal) sm a0 a1 a2 a3 a4 a5 a6 a7 (ix4 b s h p : S64x4x128x2052.Idx)
      = Ideal.exp ((rScore (F := Ideal) sm a0 a1 a2 a3 a4 a5 a6 a7 (ix4 b s h p : S64x4x128x2052.Idx) : EReal)
          - rMax (F := Ideal) sm a0 a1 a2 a3 a4 a5 a6 a7 (ix3 b s h : S64x4x128.Idx)) := by
  pointwise [rExp]

theorem rOut_at (b : Fin 64) (R : Fin 512) (d : Fin 512) (s : Fin 4) (h : Fin 128) (hR : R.val = s.val * 128 + h.val) :
    rOut (F := Ideal) sm a0 a1 a2 a3 a4 a5 a6 a7 (ix3 b R d : S64x512x512.Idx)
      = Ideal.div ((∑ x : Fin 2048, (rExp (F := Ideal) sm a0 a1 a2 a3 a4 a5 a6 a7 (ix4 b s h (pOld x)) : EReal) * rLat (F := Ideal) a4 a5 (ix3 b x d))
          + ∑ x : Fin 4, (rExp (F := Ideal) sm a0 a1 a2 a3 a4 a5 a6 a7 (ix4 b s h (pNew x)) : EReal) * a2 (ix3 b x d))
        (∑ x : Fin 2052, (rExp (F := Ideal) sm a0 a1 a2 a3 a4 a5 a6 a7 (ix4 b s h x) : EReal)) := by
  have hlt := R.isLt
  have h1 : R.val / 128 < 4 := by clear hR; omega
  have h2 : R.val % 128 < 128 := by clear hR; omega
  have hs : s = ⟨R.val / 128, h1⟩ := Fin.ext (by simp only; omega)
  have hh : h = ⟨R.val % 128, h2⟩ := Fin.ext (by simp only; omega)
  rw [hs, hh]
  unfold pOld pNew
  pointwise [rOut]

end ideal

end Cert.ReferenceIdeal.Mla

end
-- ==== Proof.Softmax.lean ====
/- The tiles' softmax against the plain one: the running maximum is the scaled largest score, and a running sum is the sum of
   exponentials over the cached positions and the four new ones. -/
module

public import proofs.«01_k».proof.Proof.Online

@[expose] public section

noncomputable section

namespace Cert.Online

open Idealize.ShloMosaic

/-- What turns a score into a power of two. -/
def kap : EReal := (((Real.log 2)⁻¹ : ℝ) : EReal)

/-- What tile positions hold: the scaled scores `U` of the cache before position `n`, `W` of the four new positions at the end
    of the last tile, and nothing (an infinite negative score) between; with the values `KU`, `KW` under them. -/
structure Tiles (n N : ℕ) (t k : ℕ → Fin 256 → EReal) (U W KU KW : ℕ → EReal) : Prop where
  room : n + 4 ≤ N * 256
  old : ∀ j < N, ∀ c : Fin 256, j * 256 + c.val < n → t j c = U (j * 256 + c.val) * kap ∧ k j c = KU (j * 256 + c.val)
  new : ∀ j < N, ∀ c : Fin 256, N * 256 ≤ j * 256 + c.val + 4 →
    t j c = W (j * 256 + c.val + 4 - N * 256) * kap ∧ k j c = KW (j * 256 + c.val + 4 - N * 256)
  hid : ∀ j < N, ∀ c : Fin 256, ¬ j * 256 + c.val < n → ¬ N * 256 ≤ j * 256 + c.val + 4 → t j c = ⊥

/-- `V` is the largest of the scores. -/
structure Largest (n : ℕ) (U W : ℕ → EReal) (V : EReal) : Prop where
  old : ∀ q < n, U q ≤ V
  new : ∀ i < 4, W i ≤ V
  least : ∀ z, (∀ q < n, U q ≤ z) → (∀ i < 4, W i ≤ z) → V ≤ z

theorem log2_pos : 0 < Real.log 2 := Real.log_pos (by norm_num)

theorem kap_nonneg : 0 ≤ kap := EReal.coe_nonneg.mpr (inv_pos.mpr log2_pos).le

theorem log2_nonneg : (0 : EReal) ≤ ((Real.log 2 : ℝ) : EReal) := EReal.coe_nonneg.mpr log2_pos.le

theorem kap_mul (x : EReal) : x * kap * ((Real.log 2 : ℝ) : EReal) = x := by
  rw [kap, mul_assoc, ← EReal.coe_mul, inv_mul_cancel₀ log2_pos.ne', EReal.coe_one, mul_one]

theorem mul_kap (x : EReal) : x * ((Real.log 2 : ℝ) : EReal) * kap = x := by
  rw [kap, mul_assoc, ← EReal.coe_mul, mul_inv_cancel₀ log2_pos.ne', EReal.coe_one, mul_one]

section
variable {n N : ℕ} {t k : ℕ → Fin 256 → EReal} {U W KU KW : ℕ → EReal} {V : EReal}

/-- The running maximum after all tiles. -/
theorem rM_eq (h : Tiles n N t k U W KU KW) (hV : Largest n U W V) : rM t N = V * kap := by
  refine le_antisymm (rM_le t fun j hj c => ?_) ?_
  · by_cases ho : j * 256 + c.val < n
    · rw [(h.old j hj c ho).1]
      exact mul_le_mul_of_nonneg_right (hV.old _ ho) kap_nonneg
    · by_cases hw : N * 256 ≤ j * 256 + c.val + 4
      · rw [(h.new j hj c hw).1]
        exact mul_le_mul_of_nonneg_right (hV.new _ (by have := c.isLt; omega)) kap_nonneg
      · rw [h.hid j hj c ho hw]
        exact bot_le
  · have hr := h.room
    have hz : V ≤ rM t N * ((Real.log 2 : ℝ) : EReal) := by
      refine hV.least _ (fun q hq => ?_) fun i hi => ?_
      · have e : q / 256 * 256 + (⟨q % 256, Nat.mod_lt _ (by omega)⟩ : Fin 256).val = q := Nat.div_add_mod' q 256
        have hj : q / 256 < N := by omega
        have := (h.old (q / 256) hj ⟨q % 256, Nat.mod_lt _ (by omega)⟩ (by rw [e]; exact hq)).1
        rw [e] at this
        rw [← kap_mul (U q), ← this]
        exact mul_le_mul_of_nonneg_right (le_rM t hj _) log2_nonneg
      · have hj : N - 1 < N := by omega
        have e : (N - 1) * 256 + (⟨252 + i, by omega⟩ : Fin 256).val + 4 - N * 256 = i := by
          show (N - 1) * 256 + (252 + i) + 4 - N * 256 = i
          omega
        have := (h.new (N - 1) hj ⟨252 + i, by omega⟩ (by show N * 256 ≤ (N - 1) * 256 + (252 + i) + 4; omega)).1
        rw [e] at this
        rw [← kap_mul (W i), ← this]
        exact mul_le_mul_of_nonneg_right (le_rM t hj _) log2_nonneg
    calc V * kap ≤ rM t N * ((Real.log 2 : ℝ) : EReal) * kap := mul_le_mul_of_nonneg_right hz kap_nonneg
      _ = rM t N := mul_kap _

/-- A running sum after all tiles. -/
theorem rA_sum (h : Tiles n N t k U W KU KW) (hV : Largest n U W V) :
    rA t k N = ∑ q ∈ Finset.range n, Ideal.exp (U q - V) * KU q + ∑ i ∈ Finset.range 4, Ideal.exp (W i - V) * KW i := by
  rw [rA_eq, rM_eq h hV, ← sum_visible n N (fun q => Ideal.exp (U q - V) * KU q) (fun i => Ideal.exp (W i - V) * KW i) h.room,
    ← sum_tiles]
  refine Finset.sum_congr rfl fun j hj => Finset.sum_congr rfl fun c _ => ?_
  have hj := Finset.mem_range.mp hj
  by_cases ho : j * 256 + c.val < n
  · rw [if_pos ho, (h.old j hj c ho).1, (h.old j hj c ho).2, kap, exp2_scaled]
  · rw [if_neg ho]
    by_cases hw : N * 256 ≤ j * 256 + c.val + 4
    · rw [if_pos hw, (h.new j hj c hw).1, (h.new j hj c hw).2, kap, exp2_scaled]
    · rw [if_neg hw, h.hid j hj c ho hw, EReal.bot_sub, Ideal.exp2_bot, zero_mul]

end

/-- The same with every value one. -/
theorem Tiles.ones {n N : ℕ} {t k : ℕ → Fin 256 → EReal} {U W KU KW : ℕ → EReal} (h : Tiles n N t k U W KU KW) :
    Tiles n N t (fun _ _ => 1) U W (fun _ => 1) (fun _ => 1) :=
  ⟨h.room, fun j hj c ho => ⟨(h.old j hj c ho).1, rfl⟩, fun j hj c hw => ⟨(h.new j hj c hw).1, rfl⟩, h.hid⟩

end Cert.Online

end
-- ==== Proof.Equation.lean ====
/- The equation: the array that the kernel leaves is the reference's result, for every cache length between 0 and 2048. -/
module

public import proofs.«01_k».proof.Proof.KernelIdeal.Array
public import proofs.«01_k».proof.Proof.KernelIdeal.Row
public import proofs.«01_k».proof.Proof.RefValue
public import proofs.«01_k».proof.Proof.Softmax

@[expose] public section

set_option maxRecDepth 16384

noncomputable section

namespace Cert.Equation

open Idealize.ShloMosaic Idealize.ShloMosaic.TcCoe Idealize.ShloMosaic.Tactic
open Idealize.SL Idealize.SL.Sem
open Cert.KernelIdeal Cert.Online
open Cert.KernelIdeal.Mla (hx hq hs hk w0 w1 w2 w3 w4 w5 w6 keyC ropeC VisC tC bcol outB_at rowB outArr)
open Cert.ReferenceIdeal.Mla (rScale rScale_at rLat rLat_at rCache rCache_at rNew rNew_at rScore rScore_at rMax rMax_at rExp rExp_at rOut rOut_at pOld pNew)

section
variable (a0 : Vec Ideal S64x4x128x512 .bf16) (a1 : Vec Ideal S64x4x128x64 .bf16) (a2 : Vec Ideal S64x4x512 .bf16) (a3 : Vec Ideal S64x4x64 .bf16)
  (a4 : Vec Ideal S64x2048x512 .fp8e4m3) (a5 : Vec Ideal S64x2048x4 .f32) (a6 : Vec Ideal S64x2048x64 .bf16) (a7 : Vec Ideal S64 .i32)

/-! ## The operands as the call takes them -/

theorem w0_at (b : Fin 64) (R : Fin 512) (d : Fin 512) (s : Fin 4) (h : Fin 128) (hR : R.val = s.val * 128 + h.val) :
    w0 a0 b (ix3 0 R d : S1x512x512.Idx) = (a0 (ix4 b s h d) : EReal) := by
  have hlt := R.isLt
  have h1 : R.val / 128 < 4 := by clear hR; omega
  have h2 : R.val % 128 < 128 := by clear hR; omega
  have hs : s = ⟨R.val / 128, h1⟩ := Fin.ext (by simp only; omega)
  have hh : h = ⟨R.val % 128, h2⟩ := Fin.ext (by simp only; omega)
  rw [hs, hh]
  show hx a0 (ix3 b R d) = _
  pointwise [hx]

theorem w1_at (b : Fin 64) (s : Fin 4) (r : Fin 64) (h : Fin 128) :
    w1 a1 b (ix4 0 s r h : S1x4x64x128.Idx) = (a1 (ix4 b s h r) : EReal) := by
  show hq a1 (ix4 b s r h) = _
  pointwise [hq]

theorem w5_at (b : Fin 64) (g : Fin 4) (p : Fin 2048) :
    w5 a5 b (ix3 0 g p : S1x4x2048.Idx) = (a5 (ix3 b p g) : EReal) := by
  show hs a5 (ix3 b g p) = _
  pointwise [hs]

theorem w6_at (b : Fin 64) (r : Fin 64) (p : Fin 2048) :
    w6 a6 b (ix3 0 r p : S1x64x2048.Idx) = (a6 (ix3 b p r) : EReal) := by
  show hk a6 (ix3 b r p) = _
  pointwise [hk]

/-! ## Scores and values over positions -/

/-- Position `q` of the cache. -/
def qc (q : ℕ) : Fin 2048 := ⟨q % 2048, Nat.mod_lt _ (by omega)⟩
/-- The new position `i`. -/
def qn (i : ℕ) : Fin 4 := ⟨i % 4, Nat.mod_lt _ (by omega)⟩

theorem qc_val (p : Fin 2048) : qc p.val = p := Fin.ext (Nat.mod_eq_of_lt p.isLt)
theorem qn_val (i : Fin 4) : qn i.val = i := Fin.ext (Nat.mod_eq_of_lt i.isLt)

/-- One over the square root of 192. -/
def smE : EReal := (((Real.sqrt 192)⁻¹ : ℝ) : EReal)

/-- The cached latent. -/
def latE (b : Fin 64) (p : Fin 2048) (d : Fin 512) : EReal := (a4 (ix3 b p d) : EReal) * a5 (ix3 b p ⟨d.val / 128, by omega⟩)

/-- The score against position `q` of the cache. -/
def uOld (b : Fin 64) (s : Fin 4) (h : Fin 128) (q : ℕ) : EReal :=
  ((∑ x : Fin 512, (a0 (ix4 b s h x) : EReal) * latE a4 a5 b (qc q) x) + ∑ x : Fin 64, (a1 (ix4 b s h x) : EReal) * a6 (ix3 b (qc q) x)) * smE

/-- The score against the new position `i`. -/
def uNew (b : Fin 64) (s : Fin 4) (h : Fin 128) (i : ℕ) : EReal :=
  if (qn i).val ≤ s.val then
    ((∑ x : Fin 512, (a0 (ix4 b s h x) : EReal) * a2 (ix3 b (qn i) x)) + ∑ x : Fin 64, (a1 (ix4 b s h x) : EReal) * a3 (ix3 b (qn i) x)) * smE
  else ⊥

theorem smE_kap (x : EReal) : x * (((Real.sqrt 192)⁻¹ * (Real.log 2)⁻¹ : ℝ) : EReal) = x * smE * kap := by
  rw [EReal.coe_mul, ← mul_assoc]
  rfl

theorem bot_mul_smE_kap : (⊥ : EReal) * (((Real.sqrt 192)⁻¹ * (Real.log 2)⁻¹ : ℝ) : EReal) = ⊥ :=
  EReal.bot_mul_coe_of_pos (mul_pos (inv_pos.mpr (Real.sqrt_pos.mpr (by norm_num))) (inv_pos.mpr log2_pos))

theorem bot_mul_kap : (⊥ : EReal) * kap = ⊥ := EReal.bot_mul_coe_of_pos (inv_pos.mpr log2_pos)

/-- What the kernel's tiles hold for a row. -/
theorem tiles (b : Fin 64) (R : Fin 512) (s : Fin 4) (h : Fin 128) (hR : R.val = s.val * 128 + h.val) (d : Fin 512) (n : ℕ) (hn : n ≤ 2048) :
    Tiles n ((n + 259) / 256)
      (tC n (w0 a0 b) (w1 a1 b) (w2 a2 b) (w3 a3 b) (w4 a4 b) (w5 a5 b) (w6 a6 b) R s h)
      (fun j c => keyC n (w2 a2 b) (w4 a4 b) (w5 a5 b) j c d)
      (uOld a0 a1 a4 a5 a6 b s h) (uNew a0 a1 a2 a3 b s h)
      (fun q => latE a4 a5 b (qc q) d) (fun i => a2 (ix3 b (qn i) d)) where
  room := by omega
  old j hj c hq := by
    have hl : ¬ (j + 1 = (n + 259) / 256 ∧ 252 ≤ c.val) := by omega
    have hb : bcol j c = qc (j * 256 + c.val) := Fin.ext (by
      show min j 7 * 256 + c.val = (j * 256 + c.val) % 2048
      omega)
    have hk : ∀ x, keyC n (w2 a2 b) (w4 a4 b) (w5 a5 b) j c x = latE a4 a5 b (qc (j * 256 + c.val)) x := fun x => by
      refine (if_neg hl).trans ?_
      rw [w5_at, hb]
      rfl
    have hr : ∀ x, ropeC n (w3 a3 b) (w6 a6 b) j c x = a6 (ix3 b (qc (j * 256 + c.val)) x) := fun x => by
      refine (if_neg hl).trans ?_
      rw [w6_at, hb]
    refine ⟨?_, hk d⟩
    unfold tC uOld
    rw [if_pos (show VisC n s j c from Or.inl hq), add_zero, smE_kap]
    simp only [hk, hr, w0_at a0 b R _ s h hR, w1_at]
  new j hj c hq := by
    have hc := c.isLt
    have hl : j + 1 = (n + 259) / 256 ∧ 252 ≤ c.val := by omega
    have hi : (⟨(c.val - 252) % 4, by omega⟩ : Fin 4) = qn (j * 256 + c.val + 4 - (n + 259) / 256 * 256) := Fin.ext (by
      show (c.val - 252) % 4 = (j * 256 + c.val + 4 - (n + 259) / 256 * 256) % 4
      omega)
    have hk : ∀ x, keyC n (w2 a2 b) (w4 a4 b) (w5 a5 b) j c x = a2 (ix3 b (qn (j * 256 + c.val + 4 - (n + 259) / 256 * 256)) x) := fun x => by
      refine (if_pos hl).trans ?_
      rw [hi]
      rfl
    have hr : ∀ x, ropeC n (w3 a3 b) (w6 a6 b) j c x = a3 (ix3 b (qn (j * 256 + c.val + 4 - (n + 259) / 256 * 256)) x) := fun x => by
      refine (if_pos hl).trans ?_
      rw [hi]
      rfl
    have hv : VisC n s j c ↔ (qn (j * 256 + c.val + 4 - (n + 259) / 256 * 256)).val ≤ s.val := by
      rw [← hi]
      show (j * 256 + c.val < n ∨ (j + 1 = (n + 259) / 256 ∧ 252 ≤ c.val ∧ c.val - 252 ≤ s.val)) ↔ (c.val - 252) % 4 ≤ s.val
      omega
    refine ⟨?_, hk d⟩
    unfold tC uNew
    by_cases hs : VisC n s j c
    · rw [if_pos hs, if_pos (hv.mp hs), add_zero, smE_kap]
      simp only [hk, hr, w0_at a0 b R _ s h hR, w1_at]
    · rw [if_neg hs, if_neg (fun e => hs (hv.mpr e)), EReal.add_bot, EReal.add_bot, bot_mul_smE_kap, bot_mul_kap]
  hid j hj c ho hw := by
    have hs : ¬ VisC n s j c := by
      show ¬ (j * 256 + c.val < n ∨ (j + 1 = (n + 259) / 256 ∧ 252 ≤ c.val ∧ c.val - 252 ≤ s.val))
      omega
    unfold tC
    rw [if_neg hs, EReal.add_bot, EReal.add_bot, bot_mul_smE_kap]

/-! ## The reference's scores -/

theorem cache_eq (b : Fin 64) (s : Fin 4) (h : Fin 128) (p : Fin 2048) (n : ℕ) (hn : n ≤ 2048) (h7 : a7 (ix1 b) = BitVec.ofNat 32 n) :
    rCache (F := Ideal) rScale a0 a1 a4 a5 a6 a7 (ix4 b s h p) = if p.val < n then uOld a0 a1 a4 a5 a6 b s h p.val else (⊥ : EReal) := by
  refine (rCache_at rScale a0 a1 a4 a5 a6 a7 b s h p n hn h7).trans (if_congr Iff.rfl ?_ rfl)
  unfold uOld
  rw [qc_val, rScale_at]
  refine congrArg (fun z => (z + _) * _) (Finset.sum_congr rfl fun x _ => ?_)
  exact congrArg (_ * ·) (rLat_at a4 a5 b p x)

theorem new_eq (b : Fin 64) (s : Fin 4) (h : Fin 128) (i : Fin 4) :
    rNew (F := Ideal) rScale a0 a1 a2 a3 (ix4 b s h i) = uNew a0 a1 a2 a3 b s h i.val := by
  refine (rNew_at rScale a0 a1 a2 a3 b s h i).trans ?_
  unfold uNew
  rw [qn_val, rScale_at]
  rfl

section score
variable (b : Fin 64) (s : Fin 4) (h : Fin 128) (n : ℕ) (hn : n ≤ 2048) (h7 : a7 (ix1 b) = BitVec.ofNat 32 n)

/-- A score of the reference. -/
def sc (p : Fin 2052) : EReal := rScore (F := Ideal) rScale a0 a1 a2 a3 a4 a5 a6 a7 (ix4 b s h p)

/-- The largest score of the reference. -/
def mx : EReal := rMax (F := Ideal) rScale a0 a1 a2 a3 a4 a5 a6 a7 (ix3 b s h)

include hn h7 in
theorem sc_old (p : Fin 2048) : sc a0 a1 a2 a3 a4 a5 a6 a7 b s h (pOld p) = if p.val < n then uOld a0 a1 a4 a5 a6 b s h p.val else ⊥ := by
  refine (rScore_at rScale a0 a1 a2 a3 a4 a5 a6 a7 b s h (pOld p)).trans ?_
  refine (dif_pos (show (pOld p).val < 2048 from p.isLt)).trans ?_
  exact cache_eq a0 a1 a4 a5 a6 a7 b s h p n hn h7

theorem sc_new (i : Fin 4) : sc a0 a1 a2 a3 a4 a5 a6 a7 b s h (pNew i) = uNew a0 a1 a2 a3 b s h i.val := by
  refine (rScore_at rScale a0 a1 a2 a3 a4 a5 a6 a7 b s h (pNew i)).trans ?_
  refine (dif_neg (show ¬ (pNew i).val < 2048 by show ¬ 2048 + i.val < 2048; omega)).trans ?_
  refine Eq.trans ?_ (new_eq a0 a1 a2 a3 b s h i)
  refine congrArg (fun z => rNew (F := Ideal) rScale a0 a1 a2 a3 (ix4 b s h z)) (Fin.ext ?_)
  show 2048 + i.val - 2048 = i.val
  omega

theorem pos_cases (p : Fin 2052) : (∃ x : Fin 2048, p = pOld x) ∨ ∃ i : Fin 4, p = pNew i := by
  by_cases hp : p.val < 2048
  · exact Or.inl ⟨⟨p.val, hp⟩, rfl⟩
  · exact Or.inr ⟨⟨p.val - 2048, by omega⟩, Fin.ext (by show p.val = 2048 + (p.val - 2048); omega)⟩

include hn h7 in
theorem largest : Largest n (uOld a0 a1 a4 a5 a6 b s h) (uNew a0 a1 a2 a3 b s h) (mx a0 a1 a2 a3 a4 a5 a6 a7 b s h) := by
  have hm : mx a0 a1 a2 a3 a4 a5 a6 a7 b s h = Finset.univ.sup (sc a0 a1 a2 a3 a4 a5 a6 a7 b s h) := rMax_at rScale a0 a1 a2 a3 a4 a5 a6 a7 b s h
  have hle : ∀ p, sc a0 a1 a2 a3 a4 a5 a6 a7 b s h p ≤ mx a0 a1 a2 a3 a4 a5 a6 a7 b s h := fun p => by
    rw [hm]
    exact Finset.le_sup (f := sc a0 a1 a2 a3 a4 a5 a6 a7 b s h) (Finset.mem_univ p)
  refine ⟨fun q hq => ?_, fun i hi => ?_, fun z hz hw => ?_⟩
  · have e := sc_old a0 a1 a2 a3 a4 a5 a6 a7 b s h n hn h7 ⟨q, by omega⟩
    rw [if_pos hq] at e
    rw [← e]
    exact hle _
  · have e := sc_new a0 a1 a2 a3 a4 a5 a6 a7 b s h ⟨i, hi⟩
    rw [← e]
    exact hle _
  · rw [hm]
    refine Finset.sup_le fun p _ => ?_
    rcases pos_cases p with ⟨x, rfl⟩ | ⟨i, rfl⟩
    · rw [sc_old a0 a1 a2 a3 a4 a5 a6 a7 b s h n hn h7 x]
      split
      · exact hz _ ‹_›
      · exact bot_le
    · rw [sc_new a0 a1 a2 a3 a4 a5 a6 a7 b s h i]
      exact hw _ i.isLt

/-- A weight of the reference. -/
theorem ex_eq (p : Fin 2052) : rExp (F := Ideal) rScale a0 a1 a2 a3 a4 a5 a6 a7 (ix4 b s h p)
    = Ideal.exp (sc a0 a1 a2 a3 a4 a5 a6 a7 b s h p - mx a0 a1 a2 a3 a4 a5 a6 a7 b s h) :=
  rExp_at rScale a0 a1 a2 a3 a4 a5 a6 a7 b s h p

include hn h7 in
theorem sum_old (k : Fin 2048 → EReal) :
    ∑ x : Fin 2048, (rExp (F := Ideal) rScale a0 a1 a2 a3 a4 a5 a6 a7 (ix4 b s h (pOld x)) : EReal) * k x
      = ∑ q ∈ Finset.range n, Ideal.exp (uOld a0 a1 a4 a5 a6 b s h q - mx a0 a1 a2 a3 a4 a5 a6 a7 b s h) * k (qc q) := by
  rw [← sum_cache n hn]
  refine Finset.sum_congr rfl fun x _ => ?_
  rw [ex_eq, sc_old a0 a1 a2 a3 a4 a5 a6 a7 b s h n hn h7 x, qc_val]
  split
  · rfl
  · rw [EReal.bot_sub, Ideal.exp_bot, zero_mul]

theorem sum_new (k : Fin 4 → EReal) :
    ∑ x : Fin 4, (rExp (F := Ideal) rScale a0 a1 a2 a3 a4 a5 a6 a7 (ix4 b s h (pNew x)) : EReal) * k x
      = ∑ i ∈ Finset.range 4, Ideal.exp (uNew a0 a1 a2 a3 b s h i - mx a0 a1 a2 a3 a4 a5 a6 a7 b s h) * k (qn i) := by
  rw [Finset.sum_range]
  refine Finset.sum_congr rfl fun x _ => ?_
  rw [ex_eq, sc_new, qn_val]

theorem sum_all : ∑ x : Fin 2052, (rExp (F := Ideal) rScale a0 a1 a2 a3 a4 a5 a6 a7 (ix4 b s h x) : EReal)
    = (∑ x : Fin 2048, (rExp (F := Ideal) rScale a0 a1 a2 a3 a4 a5 a6 a7 (ix4 b s h (pOld x)) : EReal) * 1)
      + ∑ x : Fin 4, (rExp (F := Ideal) rScale a0 a1 a2 a3 a4 a5 a6 a7 (ix4 b s h (pNew x)) : EReal) * 1 := by
  simp only [mul_one]
  exact Fin.sum_univ_add (a := 2048) (b := 4) fun x => (rExp (F := Ideal) rScale a0 a1 a2 a3 a4 a5 a6 a7 (ix4 b s h x) : EReal)

end score

/-! ## The equation -/

/-- Row `R` of batch `b`: both programs divide the same sums. -/
theorem row (b : Fin 64) (R : Fin 512) (d : Fin 512) (s : Fin 4) (h : Fin 128) (hR : R.val = s.val * 128 + h.val)
    (n : ℕ) (hn : n ≤ 2048) (h7 : a7 (ix1 b) = BitVec.ofNat 32 n) :
    rowB a0 a1 a2 a3 a4 a5 a6 a7 b (ix3 0 R d) = rOut (F := Ideal) rScale a0 a1 a2 a3 a4 a5 a6 a7 (ix3 b R d) := by
  have hT := tiles a0 a1 a2 a3 a4 a5 a6 b R s h hR d n hn
  have hL := largest a0 a1 a2 a3 a4 a5 a6 a7 b s h n hn h7
  unfold rowB
  rw [h7]
  refine (outB_at n hn (w0 a0 b) (w1 a1 b) (w2 a2 b) (w3 a3 b) (w4 a4 b) (w5 a5 b) (w6 a6 b) R s h hR d).trans ?_
  refine Eq.trans ?_ (rOut_at rScale a0 a1 a2 a3 a4 a5 a6 a7 b R d s h hR).symm
  refine congrArg₂ Ideal.div ((rA_sum hT hL).trans ?_) ((rA_sum hT.ones hL).trans ?_)
  · refine congrArg₂ (· + ·) ?_ ?_
    · refine Eq.trans ?_ (sum_old a0 a1 a2 a3 a4 a5 a6 a7 b s h n hn h7 fun x => rLat (F := Ideal) a4 a5 (ix3 b x d)).symm
      refine Finset.sum_congr rfl fun q _ => congrArg (fun z => Ideal.exp (uOld a0 a1 a4 a5 a6 b s h q - mx a0 a1 a2 a3 a4 a5 a6 a7 b s h) * z) ?_
      exact (rLat_at a4 a5 b (qc q) d).symm
    · exact (sum_new a0 a1 a2 a3 a4 a5 a6 a7 b s h fun x => a2 (ix3 b x d)).symm
  · refine Eq.trans ?_ (sum_all a0 a1 a2 a3 a4 a5 a6 a7 b s h).symm
    exact congrArg₂ (· + ·) (sum_old a0 a1 a2 a3 a4 a5 a6 a7 b s h n hn h7 fun _ => 1).symm (sum_new a0 a1 a2 a3 a4 a5 a6 a7 b s h fun _ => 1).symm

/-- The arrays. -/
theorem equation (h7 : ∀ b : Fin 64, ∃ n : ℕ, n ≤ 2048 ∧ a7 (ix1 b) = BitVec.ofNat 32 n) :
    outArr a0 a1 a2 a3 a4 a5 a6 a7 = rOut (F := Ideal) rScale a0 a1 a2 a3 a4 a5 a6 a7 := by
  funext i
  obtain ⟨n, hn, e⟩ := h7 (i 0)
  have hlt : (i 1).val < 512 := (i 1).isLt
  refine (row a0 a1 a2 a3 a4 a5 a6 a7 (i 0) (i 1) (i 2) ⟨(i 1).val / 128, by omega⟩ ⟨(i 1).val % 128, by omega⟩
    (Nat.div_add_mod' (i 1).val 128).symm n hn e).trans ?_
  refine congrArg (rOut (F := Ideal) rScale a0 a1 a2 a3 a4 a5 a6 a7) (funext fun a => ?_)
  match a with
  | (⟨0, _⟩ : Fin 3) => rfl
  | (⟨1, _⟩ : Fin 3) => rfl
  | (⟨2, _⟩ : Fin 3) => rfl

end

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.Kernel.Frame
public import proofs.«01_k».proof.Proof.KernelIdeal.Frame
public import proofs.«01_k».proof.Proof.Gen.ReferenceIdeal.Frame
public import proofs.«01_k».proof.Proof.KernelIdeal.Array
public import proofs.«01_k».proof.Proof.RefRun
public import proofs.«01_k».proof.Proof.RefCast
public import proofs.«01_k».proof.Proof.Equation
public import Idealize.ShloMosaic.Lib.StableHlo.Predicate
public import Idealize.ShloMosaic.Lib.Bf16Pair
public import Idealize.ShloMosaic.Adequacy
public import Idealize.ShloMosaic.Init

@[expose] public section

noncomputable section

namespace Cert.Proof

open Idealize.ShloMosaic Idealize.ShloMosaic.Tactic Idealize.SL.Sem

/-- The idealized kernel is the kernel: each rule applied is a true statement. -/
theorem preserves : Cert.preserves_Kernel_KernelIdeal :=
  ⟨IdealRules.bf16_pair.statement _ _, IdealRules.named_const.statement _ _ _ _ _ rfl, IdealRules.bf16_pair.statement _ _,
    IdealRules.bf16_pair.statement _ _, IdealRules.bf16_pair.statement _ _, IdealRules.named_const.statement _ _ _ _ _ rfl⟩

/-- A word between 0 and 2048. -/
theorem word (w : BitVec 32) (h : IntOp.andi (IntOp.cmpi .sge w 0#32) (IntOp.cmpi .sle w 2048#32) = 1#1) :
    ∃ n : ℕ, n ≤ 2048 ∧ w = BitVec.ofNat 32 n := by
  refine ⟨w.toNat, ?_, (BitVec.ofNat_toNat 32 w ▸ (BitVec.setWidth_eq w).symm)⟩
  simp only [IntOp.andi, IntOp.cmpi] at h
  by_cases h0 : (0#32).sle w
  · by_cases h1 : w.sle 2048#32
    · rw [BitVec.sle_iff_toInt_le] at h0 h1
      simp only [BitVec.toInt_eq_toNat_cond] at h0 h1
      have := w.isLt
      simp at h0 h1
      split at h0 <;> split at h1 <;> omega
    · simp [h1] at h
  · simp [h0] at h

/-- The precondition, word by word: every cache length lies between 0 and 2048. -/
theorem lengths (m : (ℓ : Loc Cert.KernelIdeal.nD Cert.KernelIdeal.τ Cert.KernelIdeal.sig) → Buf (Elt Ideal) ℓ) (h : Cert.Pre_KernelIdeal_pre m)
    (c : Dev Cert.KernelIdeal.nD) (b : Fin 64) : ∃ n : ℕ, n ≤ 2048 ∧
      (m ((c.tc : Thread Cert.KernelIdeal.nD Cert.KernelIdeal.τ).loc Cert.KernelIdeal.main_arg7) : Cert.KernelIdeal.S64.Idx → BitVec 32) (ix1 b) = BitVec.ofNat 32 n := by
  have e := congrFun (h c) (ix1 b)
  pointwise [Cert.Pre_pre.fn] at e
  exact word _ e

/-- The idealized kernel and the reference, run from the same arguments, leave the same result. -/
theorem algebraic : Cert.algebraic_KernelIdeal_ReferenceIdeal_pre_pre := by
  intro m g m' g' hp hm
  refine ⟨_, Cert.KernelIdeal.Mla.result m g trivial, (θ_run Cert.ReferenceIdeal.defs _ _).mono (fun _ h c => ⟨(h c).1.trans ?_, (h c).2⟩)
    (Cert.ReferenceIdeal.Mla.run m' g')⟩
  obtain ⟨e0, e1, e2, e3, e4, e5, e6, e7⟩ := hm c
  refine Eq.trans ?_ (Cert.KernelIdeal.Mla.arr_eq m trivial c).symm
  unfold Cert.ReferenceIdeal.Mla.res_main_v52
  rw [Cert.ReferenceIdeal.Mla.reg_eq m' c, e0, e1, e2, e3, e4, e5, e6, e7]
  exact (Cert.Equation.equation _ _ _ _ _ _ _ _ fun b => lengths m hp c b).symm

theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ trivial,
    fun m ρ _ => Cert.KernelIdeal.Gen.frame m ρ trivial,
    fun m ρ _ => Cert.KernelIdeal.Gen.frame m ρ trivial,
    fun m ρ _ => Cert.ReferenceIdeal.Gen.frame m ρ,
    fun m ρ _ => Cert.ReferenceIdeal.Gen.frame m ρ,
    preserves, algebraic⟩

end Cert.Proof

end
